-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_scales [hPre_usable_scales : Cert.Pre_usable_scales.Facts] (m : (ℓ : Loc Cert.KernelIdeal.nD Cert.KernelIdeal.τ Cert.KernelIdeal.sig) → Buf (Elt Ideal) ℓ) : Prop :=
  ∀ c : Dev Cert.KernelIdeal.nD,
    (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_usable_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_scales [hPre_usable_scales : Cert.Pre_usable_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_usable_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable_scales [hKernelIdeal : Cert.KernelIdeal.Facts] [hPre_usable_scales : Cert.Pre_usable_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable_scales [hReferenceIdeal : Cert.ReferenceIdeal.Facts] [hPre_usable_scales : Cert.Pre_usable_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S8x128
  ∧ IdealRules.bf16_pair.Statement Cert.KernelIdeal.S1x8x1x1x2x128 Cert.KernelIdeal.S1x8x1x1x1x128

def algebraic_KernelIdeal_ReferenceIdeal_pre_usable_scales [hKernelIdeal : Cert.KernelIdeal.Facts] [hReferenceIdeal : Cert.ReferenceIdeal.Facts] [hPre_usable_scales : Cert.Pre_usable_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_usable_scales : Cert.Pre_usable_scales.Facts),
    quiescent_Kernel (hKernel := hKernel)
    ∧ quiescent_KernelIdeal (hKernelIdeal := hKernelIdeal)
    ∧ quiescent_KernelIdeal_pre_usable_scales (hKernelIdeal := hKernelIdeal) (hPre_usable_scales := hPre_usable_scales)
    ∧ quiescent_ReferenceIdeal (hReferenceIdeal := hReferenceIdeal)
    ∧ quiescent_ReferenceIdeal_pre_usable_scales (hReferenceIdeal := hReferenceIdeal) (hPre_usable_scales := hPre_usable_scales)
    ∧ preserves_Kernel_KernelIdeal
    ∧ algebraic_KernelIdeal_ReferenceIdeal_pre_usable_scales (hKernelIdeal := hKernelIdeal) (hReferenceIdeal := hReferenceIdeal) (hPre_usable_scales := hPre_usable_scales)
-- ==== Pre_usable_scales.lean ====
abbrev S2x512x192x128 : Shape := ⟨4, ![2, 512, 192, 128]⟩
abbrev S2x192x128 : Shape := ⟨3, ![2, 192, 128]⟩
abbrev S640x512x3x3 : Shape := ⟨4, ![640, 512, 3, 3]⟩
abbrev S640 : Shape := ⟨1, ![640]⟩
abbrev S_ : Shape := ⟨0, ![]⟩

class Facts : Prop where
  bcast_S_S2x192x128 : S_.BroadcastsInDim S2x192x128 (![] : Fin 0 → Fin S2x192x128.rank)
  bcast_S_S640 : S_.BroadcastsInDim S640 (![] : Fin 0 → Fin S640.rank)

variable [Facts]

def fn {F : FTy → Type} [FloatOps F] (main_arg0 : FVec F S2x512x192x128 .fp8e4m3) (main_arg1 : FVec F S2x192x128 .f32) (main_arg2 : FVec F S640x512x3x3 .fp8e4m3) (main_arg3 : FVec F S640 .f32) (main_arg4 : FVec F S640 .f32) : IVec S2x192x128 1 × IVec S2x192x128 1 × IVec S640 1 × IVec S640 1 :=
  let main_cst : FVec F S_ .f32 := constant S_ .f32 0x00000000#32
  let main_v0 : FVec F S2x192x128 .f32 := broadcastInDim S2x192x128 ![] bcast_S_S2x192x128 main_cst
  let main_v1 : IVec S2x192x128 1 := cmpf .oge main_arg1 main_v0
  let main_cst_0 : FVec F S_ .f32 := constant S_ .f32 0x7F800000#32
  let main_v2 : FVec F S2x192x128 .f32 := broadcastInDim S2x192x128 ![] bcast_S_S2x192x128 main_cst_0
  let main_v3 : IVec S2x192x128 1 := cmpf .olt main_arg1 main_v2
  let main_cst_1 : FVec F S_ .f32 := constant S_ .f32 0x00000000#32
  let main_v4 : FVec F S640 .f32 := broadcastInDim S640 ![] bcast_S_S640 main_cst_1
  let main_v5 : IVec S640 1 := cmpf .oge main_arg3 main_v4
  let main_cst_2 : FVec F S_ .f32 := constant S_ .f32 0x7F800000#32
  let main_v6 : FVec F S640 .f32 := broadcastInDim S640 ![] bcast_S_S640 main_cst_2
  let main_v7 : IVec S640 1 := cmpf .olt main_arg3 main_v6
  (main_v1, main_v3, main_v5, main_v7)
-- ==== Kernel.lean ====
abbrev S2x512x192x128 : Shape := ⟨4, ![2, 512, 192, 128]⟩
abbrev S2x192x128 : Shape := ⟨3, ![2, 192, 128]⟩
abbrev S640x512x3x3 : Shape := ⟨4, ![640, 512, 3, 3]⟩
abbrev S640 : Shape := ⟨1, ![640]⟩
abbrev S2x192x512x128 : Shape := ⟨4, ![2, 192, 512, 128]⟩
abbrev S3x3x640x512 : Shape := ⟨4, ![3, 3, 640, 512]⟩
abbrev S1x3x640x512 : Shape := ⟨4, ![1, 3, 640, 512]⟩
abbrev S3x640x512 : Shape := ⟨3, ![3, 640, 512]⟩
abbrev S9x20x32x512 : Shape := ⟨4, ![9, 20, 32, 512]⟩
abbrev S20x9x32x512 : Shape := ⟨4, ![20, 9, 32, 512]⟩
abbrev S5760x512 : Shape := ⟨2, ![5760, 512]⟩
abbrev S640x1 : Shape := ⟨2, ![640, 1]⟩
abbrev S640x128 : Shape := ⟨2, ![640, 128]⟩
abbrev S2x640x48x2x8x128 : Shape := ⟨6, ![2, 640, 48, 2, 8, 128]⟩
abbrev S1x1x512x128 : Shape := ⟨4, ![1, 1, 512, 128]⟩
abbrev S1x192x128 : Shape := ⟨3, ![1, 192, 128]⟩
abbrev S1x640x1x2x8x128 : Shape := ⟨6, ![1, 640, 1, 2, 8, 128]⟩
abbrev S512x512 : Shape := ⟨2, ![512, 512]⟩
abbrev S3x640x128 : Shape := ⟨3, ![3, 640, 128]⟩
abbrev S2x640x128 : Shape := ⟨3, ![2, 640, 128]⟩
abbrev S1x128 : Shape := ⟨2, ![1, 128]⟩
abbrev S512x128 : Shape := ⟨2, ![512, 128]⟩
abbrev S512x128x1 : Shape := ⟨3, ![512, 128, 1]⟩
abbrev S1x1x128 : Shape := ⟨3, ![1, 1, 128]⟩
abbrev S8x128 : Shape := ⟨2, ![8, 128]⟩
abbrev S8x128x1 : Shape := ⟨3, ![8, 128, 1]⟩
abbrev S192x512 : Shape := ⟨2, ![192, 512]⟩
abbrev S96x512 : Shape := ⟨2, ![96, 512]⟩
abbrev S1x8x128 : Shape := ⟨3, ![1, 8, 128]⟩
abbrev S1x32x1x2x8x128 : Shape := ⟨6, ![1, 32, 1, 2, 8, 128]⟩
abbrev S1x32x1x2x4x128 : Shape := ⟨6, ![1, 32, 1, 2, 4, 128]⟩
abbrev S256x128 : Shape := ⟨2, ![256, 128]⟩
abbrev S1x8x1x1x2x128 : Shape := ⟨6, ![1, 8, 1, 1, 2, 128]⟩
abbrev S1x8x1x1x1x128 : Shape := ⟨6, ![1, 8, 1, 1, 1, 128]⟩
abbrev S2x640x48x8x2x128 : Shape := ⟨6, ![2, 640, 48, 8, 2, 128]⟩
abbrev S2x640x384x256 : Shape := ⟨4, ![2, 640, 384, 256]⟩

abbrev nBuf : Space → Nat
  | .hbm => 29
  | .vmem => 20
  | .smem => 0
  | _ => 0

abbrev bufTy : (tb : Table) → Fin (tcTables nBuf tb) → BufTy
  | .hbm, ⟨0, _⟩ => ⟨S2x512x192x128, .fp8e4m3⟩
  | .hbm, ⟨1, _⟩ => ⟨S2x192x128, .f32⟩
  | .hbm, ⟨2, _⟩ => ⟨S640x512x3x3, .fp8e4m3⟩
  | .hbm, ⟨3, _⟩ => ⟨S640, .f32⟩
  | .hbm, ⟨4, _⟩ => ⟨S640, .f32⟩
  | .hbm, ⟨5, _⟩ => ⟨S2x192x512x128, .fp8e4m3⟩
  | .hbm, ⟨6, _⟩ => ⟨S2x192x128, .bf16⟩
  | .hbm, ⟨7, _⟩ => ⟨S2x192x128, .f32⟩
  | .hbm, ⟨8, _⟩ => ⟨S3x3x640x512, .fp8e4m3⟩
  | .hbm, ⟨9, _⟩ => ⟨S1x3x640x512, .fp8e4m3⟩
  | .hbm, ⟨10, _⟩ => ⟨S3x640x512, .fp8e4m3⟩
  | .hbm, ⟨11, _⟩ => ⟨S1x3x640x512, .fp8e4m3⟩
  | .hbm, ⟨12, _⟩ => ⟨S3x640x512, .fp8e4m3⟩
  | .hbm, ⟨13, _⟩ => ⟨S1x3x640x512, .fp8e4m3⟩
  | .hbm, ⟨14, _⟩ => ⟨S3x640x512, .fp8e4m3⟩
  | .hbm, ⟨15, _⟩ => ⟨S1x3x640x512, .fp8e4m3⟩
  | .hbm, ⟨16, _⟩ => ⟨S1x3x640x512, .fp8e4m3⟩
  | .hbm, ⟨17, _⟩ => ⟨S1x3x640x512, .fp8e4m3⟩
  | .hbm, ⟨18, _⟩ => ⟨S3x3x640x512, .fp8e4m3⟩
  | .hbm, ⟨19, _⟩ => ⟨S9x20x32x512, .fp8e4m3⟩
  | .hbm, ⟨20, _⟩ => ⟨S20x9x32x512, .fp8e4m3⟩
  | .hbm, ⟨21, _⟩ => ⟨S5760x512, .fp8e4m3⟩
  | .hbm, ⟨22, _⟩ => ⟨S640x1, .f32⟩
  | .hbm, ⟨23, _⟩ => ⟨S640x128, .f32⟩
  | .hbm, ⟨24, _⟩ => ⟨S640x1, .f32⟩
  | .hbm, ⟨25, _⟩ => ⟨S640x128, .f32⟩
  | .hbm, ⟨26, _⟩ => ⟨S2x640x48x2x8x128, .bf16⟩
  | .hbm, ⟨27, _⟩ => ⟨S2x640x48x8x2x128, .bf16⟩
  | .hbm, ⟨28, _⟩ => ⟨S2x640x384x256, .bf16⟩
  | .local _ .vmem, ⟨0, _⟩ => ⟨S1x1x512x128, .fp8e4m3⟩
  | .local _ .vmem, ⟨1, _⟩ => ⟨S1x1x512x128, .fp8e4m3⟩
  | .local _ .vmem, ⟨2, _⟩ => ⟨S1x1x512x128, .fp8e4m3⟩
  | .local _ .vmem, ⟨3, _⟩ => ⟨S1x1x512x128, .fp8e4m3⟩
  | .local _ .vmem, ⟨4, _⟩ => ⟨S1x1x512x128, .fp8e4m3⟩
  | .local _ .vmem, ⟨5, _⟩ => ⟨S1x1x512x128, .fp8e4m3⟩
  | .local _ .vmem, ⟨6, _⟩ => ⟨S1x1x512x128, .fp8e4m3⟩
  | .local _ .vmem, ⟨7, _⟩ => ⟨S1x1x512x128, .fp8e4m3⟩
  | .local _ .vmem, ⟨8, _⟩ => ⟨S1x192x128, .f32⟩
  | .local _ .vmem, ⟨9, _⟩ => ⟨S1x192x128, .f32⟩
  | .local _ .vmem, ⟨10, _⟩ => ⟨S5760x512, .fp8e4m3⟩
  | .local _ .vmem, ⟨11, _⟩ => ⟨S640x128, .f32⟩
  | .local _ .vmem, ⟨12, _⟩ => ⟨S640x128, .f32⟩
  | .local _ .vmem, ⟨13, _⟩ => ⟨S1x640x1x2x8x128, .bf16⟩
  | .local _ .vmem, ⟨14, _⟩ => ⟨S1x640x1x2x8x128, .bf16⟩
  | .local _ .vmem, ⟨15, _⟩ => ⟨S512x512, .fp8e4m3⟩
  | .local _ .vmem, ⟨16, _⟩ => ⟨S512x512, .fp8e4m3⟩
  | .local _ .vmem, ⟨17, _⟩ => ⟨S3x640x128, .f32⟩
  | .local _ .vmem, ⟨18, _⟩ => ⟨S3x640x128, .f32⟩
  | .local _ .vmem, ⟨19, _⟩ => ⟨S2x640x128, .f32⟩
  | _, _ => ⟨S2x512x192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨2, ![2, 49], ![false, false]⟩

def k0_off1 (i : grid0.Coords) (c0_i32_19 : BitVec 32) : Fin 3 → Nat :=
  let c0_22 : Index := 0#32
  let c191_i32 : BitVec 32 := 191#32
  let c0_i32_21 : BitVec 32 := 0#32
  let c4_i32 : BitVec 32 := 4#32
  let arg1 : BitVec 32 := BitVec.ofNat 32 (i 1).val
  let c1_i32_17 : BitVec 32 := 1#32
  let v61 : BitVec 32 := Scalar.subi arg1 c1_i32_17
  let v62 : BitVec 32 := Scalar.muli c4_i32 v61
  let c1_i32_18 : BitVec 32 := 1#32
  let v63 : BitVec 32 := Scalar.addi v62 c1_i32_18
  let v64 : BitVec 32 := Scalar.addi v63 c0_i32_19
  let v68 : BitVec 32 := Scalar.maxsi c0_i32_21 v64
  let v69 : BitVec 32 := Scalar.minsi c191_i32 v68
  let v70 : Index := Scalar.indexCast v69
  let c0_23 : Index := 0#32
  ![0, v70.toNat, 0]
@[reducible] def k0_t1_loop : Scf.Loop 32 :=
  let c0_i32_107 : BitVec 32 := 0#32
  let c20_i32 : BitVec 32 := 20#32
  let v301 : BitVec 32 := Scalar.addi c0_i32_107 c20_i32
  let c1_i32_108 : BitVec 32 := 1#32
  ⟨c0_i32_107, v301, c1_i32_108⟩
def k0_off2 (k0_t1 : Fin k0_t1_loop.trips) : Fin 2 → Nat :=
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c9_i32 : BitVec 32 := 9#32
  let v305 : BitVec 32 := Scalar.muli v303 c9_i32
  let c32_i32_112 : BitVec 32 := 32#32
  let v306 : BitVec 32 := Scalar.muli v305 c32_i32_112
  let v307 : Index := Scalar.indexCast v306
  let c0_113 : Index := 0#32
  ![v307.toNat, 0]
def k0_off3 (k0_t1 : Fin k0_t1_loop.trips) : Fin 2 → Nat :=
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c9_i32_117 : BitVec 32 := 9#32
  let v312 : BitVec 32 := Scalar.muli v303 c9_i32_117
  let c32_i32_118 : BitVec 32 := 32#32
  let v313 : BitVec 32 := Scalar.muli v312 c32_i32_118
  let c192_i32_119 : BitVec 32 := 192#32
  let v314 : BitVec 32 := Scalar.addi v313 c192_i32_119
  let v315 : Index := Scalar.indexCast v314
  let c0_120 : Index := 0#32
  ![v315.toNat, 0]
def k0_off4 (k0_t1 : Fin k0_t1_loop.trips) (c0_i32_125 : BitVec 32) : Fin 2 → Nat :=
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32_124 : BitVec 32 := 32#32
  let v320 : BitVec 32 := Scalar.muli v303 c32_i32_124
  let v321 : BitVec 32 := Scalar.addi v320 c0_i32_125
  let v322 : Index := Scalar.indexCast v321
  let c0_126 : Index := 0#32
  ![v322.toNat, 0]
def k0_off5 (k0_t1 : Fin k0_t1_loop.trips) (c0_i32_125 : BitVec 32) : Fin 3 → Nat :=
  let c0_128 : Index := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32_124 : BitVec 32 := 32#32
  let v320 : BitVec 32 := Scalar.muli v303 c32_i32_124
  let v321 : BitVec 32 := Scalar.addi v320 c0_i32_125
  let v328 : Index := Scalar.indexCast v321
  let c0_129 : Index := 0#32
  ![0, v328.toNat, 0]
def k0_off6 (k0_t1 : Fin k0_t1_loop.trips) (c0_i32_125 : BitVec 32) : Fin 3 → Nat :=
  let c1 : Index := 1#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32_124 : BitVec 32 := 32#32
  let v320 : BitVec 32 := Scalar.muli v303 c32_i32_124
  let v321 : BitVec 32 := Scalar.addi v320 c0_i32_125
  let v331 : Index := Scalar.indexCast v321
  let c0_130 : Index := 0#32
  ![1, v331.toNat, 0]
def k0_off7 (k0_t1 : Fin k0_t1_loop.trips) (c0_i32_125 : BitVec 32) : Fin 3 → Nat :=
  let c2 : Index := 2#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32_124 : BitVec 32 := 32#32
  let v320 : BitVec 32 := Scalar.muli v303 c32_i32_124
  let v321 : BitVec 32 := Scalar.addi v320 c0_i32_125
  let v334 : Index := Scalar.indexCast v321
  let c0_131 : Index := 0#32
  ![2, v334.toNat, 0]
def k0_off8 (k0_t1 : Fin k0_t1_loop.trips) (c0_i32_125 : BitVec 32) : Fin 3 → Nat :=
  let c0_138 : Index := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32_124 : BitVec 32 := 32#32
  let v320 : BitVec 32 := Scalar.muli v303 c32_i32_124
  let v321 : BitVec 32 := Scalar.addi v320 c0_i32_125
  let v346 : Index := Scalar.indexCast v321
  let c0_139 : Index := 0#32
  ![0, v346.toNat, 0]
def k0_off9 (k0_t1 : Fin k0_t1_loop.trips) (c0_i32_125 : BitVec 32) : Fin 3 → Nat :=
  let c1_140 : Index := 1#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32_124 : BitVec 32 := 32#32
  let v320 : BitVec 32 := Scalar.muli v303 c32_i32_124
  let v321 : BitVec 32 := Scalar.addi v320 c0_i32_125
  let v349 : Index := Scalar.indexCast v321
  let c0_141 : Index := 0#32
  ![1, v349.toNat, 0]
def k0_off10 (k0_t1 : Fin k0_t1_loop.trips) : Fin 6 → Nat :=
  let c0_i32_146 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_147 : BitVec 32 := 0#32
  let c0_i32_148 : BitVec 32 := 0#32
  let c0_i32_149 : BitVec 32 := 0#32
  let c0_i32_150 : BitVec 32 := 0#32
  ![0, v304.toNat, 0, 0, 0, 0]
def k0_off11 (k0_t1 : Fin k0_t1_loop.trips) : Fin 6 → Nat :=
  let c0_i32_146 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_147 : BitVec 32 := 0#32
  let c0_i32_148 : BitVec 32 := 0#32
  let c0_i32_149 : BitVec 32 := 0#32
  let c0_i32_150 : BitVec 32 := 0#32
  ![0, v304.toNat, 0, 0, 0, 0]
def k0_off12 (k0_t1 : Fin k0_t1_loop.trips) : Fin 6 → Nat :=
  let c0_i32_153 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_154 : BitVec 32 := 0#32
  let c0_i32_156 : BitVec 32 := 0#32
  let c0_i32_157 : BitVec 32 := 0#32
  ![0, v304.toNat, 0, 1, 0, 0]
def k0_off13 (k0_t1 : Fin k0_t1_loop.trips) : Fin 6 → Nat :=
  let c0_i32_165 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_166 : BitVec 32 := 0#32
  let c0_i32_167 : BitVec 32 := 0#32
  let c0_i32_169 : BitVec 32 := 0#32
  ![0, v304.toNat, 0, 0, 2, 0]
def k0_off14 (k0_t1 : Fin k0_t1_loop.trips) : Fin 6 → Nat :=
  let c0_i32_172 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_173 : BitVec 32 := 0#32
  let c0_i32_176 : BitVec 32 := 0#32
  ![0, v304.toNat, 0, 1, 2, 0]
def k0_off15 (k0_t1 : Fin k0_t1_loop.trips) : Fin 6 → Nat :=
  let c0_i32_184 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_185 : BitVec 32 := 0#32
  let c0_i32_186 : BitVec 32 := 0#32
  let c0_i32_188 : BitVec 32 := 0#32
  ![0, v304.toNat, 0, 0, 4, 0]
def k0_off16 (k0_t1 : Fin k0_t1_loop.trips) : Fin 6 → Nat :=
  let c0_i32_191 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_192 : BitVec 32 := 0#32
  let c0_i32_195 : BitVec 32 := 0#32
  ![0, v304.toNat, 0, 1, 4, 0]
def k0_off17 (k0_t1 : Fin k0_t1_loop.trips) : Fin 6 → Nat :=
  let c0_i32_203 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_204 : BitVec 32 := 0#32
  let c0_i32_205 : BitVec 32 := 0#32
  let c0_i32_207 : BitVec 32 := 0#32
  ![0, v304.toNat, 0, 0, 6, 0]
def k0_off18 (k0_t1 : Fin k0_t1_loop.trips) : Fin 6 → Nat :=
  let c0_i32_209 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_210 : BitVec 32 := 0#32
  let c0_i32_213 : BitVec 32 := 0#32
  ![0, v304.toNat, 0, 1, 6, 0]
def k0_off19 (k0_t1 : Fin k0_t1_loop.trips) : Fin 6 → Nat :=
  let c0_i32_256 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_257 : BitVec 32 := 0#32
  let c0_i32_258 : BitVec 32 := 0#32
  let c0_i32_259 : BitVec 32 := 0#32
  let c0_i32_260 : BitVec 32 := 0#32
  ![0, Nat.add v304.toNat 8, 0, 0, 0, 0]
def k0_off20 (k0_t1 : Fin k0_t1_loop.trips) : Fin 6 → Nat :=
  let c0_i32_262 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_263 : BitVec 32 := 0#32
  let c0_i32_265 : BitVec 32 := 0#32
  let c0_i32_266 : BitVec 32 := 0#32
  ![0, Nat.add v304.toNat 8, 0, 1, 0, 0]
def k0_off21 (k0_t1 : Fin k0_t1_loop.trips) : Fin 6 → Nat :=
  let c0_i32_274 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_275 : BitVec 32 := 0#32
  let c0_i32_276 : BitVec 32 := 0#32
  let c0_i32_278 : BitVec 32 := 0#32
  ![0, Nat.add v304.toNat 8, 0, 0, 2, 0]
def k0_off22 (k0_t1 : Fin k0_t1_loop.trips) : Fin 6 → Nat :=
  let c0_i32_280 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_281 : BitVec 32 := 0#32
  let c0_i32_284 : BitVec 32 := 0#32
  ![0, Nat.add v304.toNat 8, 0, 1, 2, 0]
def k0_off23 (k0_t1 : Fin k0_t1_loop.trips) : Fin 6 → Nat :=
  let c0_i32_292 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_293 : BitVec 32 := 0#32
  let c0_i32_294 : BitVec 32 := 0#32
  let c0_i32_296 : BitVec 32 := 0#32
  ![0, Nat.add v304.toNat 8, 0, 0, 4, 0]
def k0_off24 (k0_t1 : Fin k0_t1_loop.trips) : Fin 6 → Nat :=
  let c0_i32_298 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_299 : BitVec 32 := 0#32
  let c0_i32_302 : BitVec 32 := 0#32
  ![0, Nat.add v304.toNat 8, 0, 1, 4, 0]
def k0_off25 (k0_t1 : Fin k0_t1_loop.trips) : Fin 6 → Nat :=
  let c0_i32_310 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_311 : BitVec 32 := 0#32
  let c0_i32_312 : BitVec 32 := 0#32
  let c0_i32_314 : BitVec 32 := 0#32
  ![0, Nat.add v304.toNat 8, 0, 0, 6, 0]
def k0_off26 (k0_t1 : Fin k0_t1_loop.trips) : Fin 6 → Nat :=
  let c0_i32_316 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_317 : BitVec 32 := 0#32
  let c0_i32_320 : BitVec 32 := 0#32
  ![0, Nat.add v304.toNat 8, 0, 1, 6, 0]
def k0_off27 (k0_t1 : Fin k0_t1_loop.trips) : Fin 6 → Nat :=
  let c0_i32_363 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_364 : BitVec 32 := 0#32
  let c0_i32_365 : BitVec 32 := 0#32
  let c0_i32_366 : BitVec 32 := 0#32
  let c0_i32_367 : BitVec 32 := 0#32
  ![0, Nat.add v304.toNat 16, 0, 0, 0, 0]
def k0_off28 (k0_t1 : Fin k0_t1_loop.trips) : Fin 6 → Nat :=
  let c0_i32_370 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_371 : BitVec 32 := 0#32
  let c0_i32_373 : BitVec 32 := 0#32
  let c0_i32_374 : BitVec 32 := 0#32
  ![0, Nat.add v304.toNat 16, 0, 1, 0, 0]
def k0_off29 (k0_t1 : Fin k0_t1_loop.trips) : Fin 6 → Nat :=
  let c0_i32_382 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_383 : BitVec 32 := 0#32
  let c0_i32_384 : BitVec 32 := 0#32
  let c0_i32_386 : BitVec 32 := 0#32
  ![0, Nat.add v304.toNat 16, 0, 0, 2, 0]
def k0_off30 (k0_t1 : Fin k0_t1_loop.trips) : Fin 6 → Nat :=
  let c0_i32_388 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_389 : BitVec 32 := 0#32
  let c0_i32_392 : BitVec 32 := 0#32
  ![0, Nat.add v304.toNat 16, 0, 1, 2, 0]
def k0_off31 (k0_t1 : Fin k0_t1_loop.trips) : Fin 6 → Nat :=
  let c0_i32_400 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_401 : BitVec 32 := 0#32
  let c0_i32_402 : BitVec 32 := 0#32
  let c0_i32_404 : BitVec 32 := 0#32
  ![0, Nat.add v304.toNat 16, 0, 0, 4, 0]
def k0_off32 (k0_t1 : Fin k0_t1_loop.trips) : Fin 6 → Nat :=
  let c0_i32_406 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_407 : BitVec 32 := 0#32
  let c0_i32_410 : BitVec 32 := 0#32
  ![0, Nat.add v304.toNat 16, 0, 1, 4, 0]
def k0_off33 (k0_t1 : Fin k0_t1_loop.trips) : Fin 6 → Nat :=
  let c0_i32_418 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_419 : BitVec 32 := 0#32
  let c0_i32_420 : BitVec 32 := 0#32
  let c0_i32_422 : BitVec 32 := 0#32
  ![0, Nat.add v304.toNat 16, 0, 0, 6, 0]
def k0_off34 (k0_t1 : Fin k0_t1_loop.trips) : Fin 6 → Nat :=
  let c0_i32_424 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_425 : BitVec 32 := 0#32
  let c0_i32_428 : BitVec 32 := 0#32
  ![0, Nat.add v304.toNat 16, 0, 1, 6, 0]
def k0_off35 (k0_t1 : Fin k0_t1_loop.trips) : Fin 6 → Nat :=
  let c0_i32_471 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_472 : BitVec 32 := 0#32
  let c0_i32_473 : BitVec 32 := 0#32
  let c0_i32_474 : BitVec 32 := 0#32
  let c0_i32_475 : BitVec 32 := 0#32
  ![0, Nat.add v304.toNat 24, 0, 0, 0, 0]
def k0_off36 (k0_t1 : Fin k0_t1_loop.trips) : Fin 6 → Nat :=
  let c0_i32_477 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_478 : BitVec 32 := 0#32
  let c0_i32_480 : BitVec 32 := 0#32
  let c0_i32_481 : BitVec 32 := 0#32
  ![0, Nat.add v304.toNat 24, 0, 1, 0, 0]
def k0_off37 (k0_t1 : Fin k0_t1_loop.trips) : Fin 6 → Nat :=
  let c0_i32_489 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_490 : BitVec 32 := 0#32
  let c0_i32_491 : BitVec 32 := 0#32
  let c0_i32_493 : BitVec 32 := 0#32
  ![0, Nat.add v304.toNat 24, 0, 0, 2, 0]
def k0_off38 (k0_t1 : Fin k0_t1_loop.trips) : Fin 6 → Nat :=
  let c0_i32_495 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_496 : BitVec 32 := 0#32
  let c0_i32_499 : BitVec 32 := 0#32
  ![0, Nat.add v304.toNat 24, 0, 1, 2, 0]
def k0_off39 (k0_t1 : Fin k0_t1_loop.trips) : Fin 6 → Nat :=
  let c0_i32_507 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_508 : BitVec 32 := 0#32
  let c0_i32_509 : BitVec 32 := 0#32
  let c0_i32_511 : BitVec 32 := 0#32
  ![0, Nat.add v304.toNat 24, 0, 0, 4, 0]
def k0_off40 (k0_t1 : Fin k0_t1_loop.trips) : Fin 6 → Nat :=
  let c0_i32_513 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_514 : BitVec 32 := 0#32
  let c0_i32_517 : BitVec 32 := 0#32
  ![0, Nat.add v304.toNat 24, 0, 1, 4, 0]
def k0_off41 (k0_t1 : Fin k0_t1_loop.trips) : Fin 6 → Nat :=
  let c0_i32_525 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_526 : BitVec 32 := 0#32
  let c0_i32_527 : BitVec 32 := 0#32
  let c0_i32_529 : BitVec 32 := 0#32
  ![0, Nat.add v304.toNat 24, 0, 0, 6, 0]
def k0_off42 (k0_t1 : Fin k0_t1_loop.trips) : Fin 6 → Nat :=
  let c0_i32_531 : BitVec 32 := 0#32
  let c0_i32_111 : BitVec 32 := 0#32
  let c0_i32_107 : BitVec 32 := 0#32
  let c1_i32_108 : BitVec 32 := 1#32
  let arg16 : BitVec 32 := Scf.iv c0_i32_107 c1_i32_108 k0_t1
  let c1_i32_110 : BitVec 32 := 1#32
  let v302 : BitVec 32 := Scalar.muli arg16 c1_i32_110
  let v303 : BitVec 32 := Scalar.addi c0_i32_111 v302
  let c32_i32 : BitVec 32 := 32#32
  let v304 : BitVec 32 := Scalar.muli v303 c32_i32
  let c0_i32_532 : BitVec 32 := 0#32
  let c0_i32_535 : BitVec 32 := 0#32
  ![0, Nat.add v304.toNat 24, 0, 1, 6, 0]
def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c4_i32 : BitVec 32 := 4#32
  let v1 : BitVec 32 := Scalar.muli c4_i32 v0
  let c1_i32_0 : BitVec 32 := 1#32
  let v2 : BitVec 32 := Scalar.addi v1 c1_i32_0
  let c0_i32 : BitVec 32 := 0#32
  let v3 : BitVec 32 := Scalar.addi v2 c0_i32
  let c0_i32_1 : BitVec 32 := 0#32
  let c191_i32 : BitVec 32 := 191#32
  let v4 : BitVec 32 := Scalar.maxsi c0_i32_1 v3
  let v5 : BitVec 32 := Scalar.minsi c191_i32 v4
  let c0_i32_2 : BitVec 32 := 0#32
  let c0_i32_3 : BitVec 32 := 0#32
  let c0_i32_4 : BitVec 32 := 0#32
  ![arg0.toNat, v5.toNat, c0_i32_2.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c4_i32 : BitVec 32 := 4#32
  let v1 : BitVec 32 := Scalar.muli c4_i32 v0
  let c1_i32_0 : BitVec 32 := 1#32
  let v2 : BitVec 32 := Scalar.addi v1 c1_i32_0
  let c1_i32_1 : BitVec 32 := 1#32
  let v3 : BitVec 32 := Scalar.addi v2 c1_i32_1
  let c0_i32 : BitVec 32 := 0#32
  let c191_i32 : BitVec 32 := 191#32
  let v4 : BitVec 32 := Scalar.maxsi c0_i32 v3
  let v5 : BitVec 32 := Scalar.minsi c191_i32 v4
  let c0_i32_2 : BitVec 32 := 0#32
  let c0_i32_3 : BitVec 32 := 0#32
  let c0_i32_4 : BitVec 32 := 0#32
  ![arg0.toNat, v5.toNat, c0_i32_2.toNat, c0_i32_3.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c4_i32 : BitVec 32 := 4#32
  let v1 : BitVec 32 := Scalar.muli c4_i32 v0
  let c1_i32_0 : BitVec 32 := 1#32
  let v2 : BitVec 32 := Scalar.addi v1 c1_i32_0
  let c2_i32 : BitVec 32 := 2#32
  let v3 : BitVec 32 := Scalar.addi v2 c2_i32
  let c0_i32 : BitVec 32 := 0#32
  let c191_i32 : BitVec 32 := 191#32
  let v4 : BitVec 32 := Scalar.maxsi c0_i32 v3
  let v5 : BitVec 32 := Scalar.minsi c191_i32 v4
  let c0_i32_1 : BitVec 32 := 0#32
  let c0_i32_2 : BitVec 32 := 0#32
  let c0_i32_3 : BitVec 32 := 0#32
  ![arg0.toNat, v5.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c4_i32 : BitVec 32 := 4#32
  let v1 : BitVec 32 := Scalar.muli c4_i32 v0
  let c1_i32_0 : BitVec 32 := 1#32
  let v2 : BitVec 32 := Scalar.addi v1 c1_i32_0
  let c3_i32 : BitVec 32 := 3#32
  let v3 : BitVec 32 := Scalar.addi v2 c3_i32
  let c0_i32 : BitVec 32 := 0#32
  let c191_i32 : BitVec 32 := 191#32
  let v4 : BitVec 32 := Scalar.maxsi c0_i32 v3
  let v5 : BitVec 32 := Scalar.minsi c191_i32 v4
  let c0_i32_1 : BitVec 32 := 0#32
  let c0_i32_2 : BitVec 32 := 0#32
  let c0_i32_3 : BitVec 32 := 0#32
  ![arg0.toNat, v5.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 6 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32_0.toNat, v1.toNat, c0_i32_1.toNat, c0_i32_2.toNat, c0_i32_3.toNat]

abbrev stage0_0 : Fin 2 → Memref sig .tc .vmem S1x1x512x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S5760x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S640x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x640x1x2x8x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F]
-- ==== ReferenceIdeal.lean ====
abbrev S2x512x192x128 : Shape := ⟨4, ![2, 512, 192, 128]⟩
abbrev S2x192x128 : Shape := ⟨3, ![2, 192, 128]⟩
abbrev S640x512x3x3 : Shape := ⟨4, ![640, 512, 3, 3]⟩
abbrev S640 : Shape := ⟨1, ![640]⟩
abbrev S2x1x192x128 : Shape := ⟨4, ![2, 1, 192, 128]⟩
abbrev S2x512x192x2x128 : Shape := ⟨5, ![2, 512, 192, 2, 128]⟩
abbrev S2x512x384x128 : Shape := ⟨4, ![2, 512, 384, 128]⟩
abbrev S2x512x384x128x2 : Shape := ⟨5, ![2, 512, 384, 128, 2]⟩
abbrev S2x512x384x256 : Shape := ⟨4, ![2, 512, 384, 256]⟩
abbrev S_ : Shape := ⟨0, ![]⟩
abbrev S2x512x386x258 : Shape := ⟨4, ![2, 512, 386, 258]⟩
abbrev S2x640x384x256 : Shape := ⟨4, ![2, 640, 384, 256]⟩
abbrev S640x512x1x1 : Shape := ⟨4, ![640, 512, 1, 1]⟩
abbrev S640x512 : Shape := ⟨2, ![640, 512]⟩
abbrev S2x384x256x640 : Shape := ⟨4, ![2, 384, 256, 640]⟩
abbrev S1x640x1x1 : Shape := ⟨4, ![1, 640, 1, 1]⟩

abbrev nBuf : Space → Nat
  | .hbm => 77
  | .vmem => 5
  | .smem => 0
  | _ => 0

abbrev bufTy : (tb : Table) → Fin (tcTables nBuf tb) → BufTy
  | .hbm, ⟨0, _⟩ => ⟨S2x512x192x128, .fp8e4m3⟩
  | .hbm, ⟨1, _⟩ => ⟨S2x192x128, .f32⟩
  | .hbm, ⟨2, _⟩ => ⟨S640x512x3x3, .fp8e4m3⟩
  | .hbm, ⟨3, _⟩ => ⟨S640, .f32⟩
  | .hbm, ⟨4, _⟩ => ⟨S640, .f32⟩
  | .hbm, ⟨5, _⟩ => ⟨S2x512x192x128, .bf16⟩
  | .hbm, ⟨6, _⟩ => ⟨S640x512x3x3, .bf16⟩
  | .hbm, ⟨7, _⟩ => ⟨S2x512x192x2x128, .bf16⟩
  | .hbm, ⟨8, _⟩ => ⟨S2x512x384x128, .bf16⟩
  | .hbm, ⟨9, _⟩ => ⟨S2x512x384x128x2, .bf16⟩
  | .hbm, ⟨10, _⟩ => ⟨S2x512x384x256, .bf16⟩
  | .hbm, ⟨11, _⟩ => ⟨S_, .i32⟩
  | .hbm, ⟨12, _⟩ => ⟨S_, .bf16⟩
  | .hbm, ⟨13, _⟩ => ⟨S2x512x386x258, .bf16⟩
  | .hbm, ⟨14, _⟩ => ⟨S_, .f32⟩
  | .hbm, ⟨15, _⟩ => ⟨S2x640x384x256, .f32⟩
  | .hbm, ⟨16, _⟩ => ⟨S640x512x1x1, .bf16⟩
  | .hbm, ⟨17, _⟩ => ⟨S640x512, .bf16⟩
  | .hbm, ⟨18, _⟩ => ⟨S2x512x384x256, .bf16⟩
  | .hbm, ⟨19, _⟩ => ⟨S2x384x256x640, .f32⟩
  | .hbm, ⟨20, _⟩ => ⟨S2x640x384x256, .f32⟩
  | .hbm, ⟨21, _⟩ => ⟨S2x640x384x256, .f32⟩
  | .hbm, ⟨22, _⟩ => ⟨S640x512x1x1, .bf16⟩
  | .hbm, ⟨23, _⟩ => ⟨S640x512, .bf16⟩
  | .hbm, ⟨24, _⟩ => ⟨S2x512x384x256, .bf16⟩
  | .hbm, ⟨25, _⟩ => ⟨S2x384x256x640, .f32⟩
  | .hbm, ⟨26, _⟩ => ⟨S2x640x384x256, .f32⟩
  | .hbm, ⟨27, _⟩ => ⟨S2x640x384x256, .f32⟩
  | .hbm, ⟨28, _⟩ => ⟨S640x512x1x1, .bf16⟩
  | .hbm, ⟨29, _⟩ => ⟨S640x512, .bf16⟩
  | .hbm, ⟨30, _⟩ => ⟨S2x512x384x256, .bf16⟩
  | .hbm, ⟨31, _⟩ => ⟨S2x384x256x640, .f32⟩
  | .hbm, ⟨32, _⟩ => ⟨S2x640x384x256, .f32⟩
  | .hbm, ⟨33, _⟩ => ⟨S2x640x384x256, .f32⟩
  | .hbm, ⟨34, _⟩ => ⟨S640x512x1x1, .bf16⟩
  | .hbm, ⟨35, _⟩ => ⟨S640x512, .bf16⟩
  | .hbm, ⟨36, _⟩ => ⟨S2x512x384x256, .bf16⟩
  | .hbm, ⟨37, _⟩ => ⟨S2x384x256x640, .f32⟩
  | .hbm, ⟨38, _⟩ => ⟨S2x640x384x256, .f32⟩
  | .hbm, ⟨39, _⟩ => ⟨S2x640x384x256, .f32⟩
  | .hbm, ⟨40, _⟩ => ⟨S640x512x1x1, .bf16⟩
  | .hbm, ⟨41, _⟩ => ⟨S640x512, .bf16⟩
  | .hbm, ⟨42, _⟩ => ⟨S2x512x384x256, .bf16⟩
  | .hbm, ⟨43, _⟩ => ⟨S2x384x256x640, .f32⟩
  | .hbm, ⟨44, _⟩ => ⟨S2x640x384x256, .f32⟩
  | .hbm, ⟨45, _⟩ => ⟨S2x640x384x256, .f32⟩
  | .hbm, ⟨46, _⟩ => ⟨S640x512x1x1, .bf16⟩
  | .hbm, ⟨47, _⟩ => ⟨S640x512, .bf16⟩
  | .hbm, ⟨48, _⟩ => ⟨S2x512x384x256, .bf16⟩
  | .hbm, ⟨49, _⟩ => ⟨S2x384x256x640, .f32⟩
  | .hbm, ⟨50, _⟩ => ⟨S2x640x384x256, .f32⟩
  | .hbm, ⟨51, _⟩ => ⟨S2x640x384x256, .f32⟩
  | .hbm, ⟨52, _⟩ => ⟨S640x512x1x1, .bf16⟩
  | .hbm, ⟨53, _⟩ => ⟨S640x512, .bf16⟩
  | .hbm, ⟨54, _⟩ => ⟨S2x512x384x256, .bf16⟩
  | .hbm, ⟨55, _⟩ => ⟨S2x384x256x640, .f32⟩
  | .hbm, ⟨56, _⟩ => ⟨S2x640x384x256, .f32⟩
  | .hbm, ⟨57, _⟩ => ⟨S2x640x384x256, .f32⟩
  | .hbm, ⟨58, _⟩ => ⟨S640x512x1x1, .bf16⟩
  | .hbm, ⟨59, _⟩ => ⟨S640x512, .bf16⟩
  | .hbm, ⟨60, _⟩ => ⟨S2x512x384x256, .bf16⟩
  | .hbm, ⟨61, _⟩ => ⟨S2x384x256x640, .f32⟩
  | .hbm, ⟨62, _⟩ => ⟨S2x640x384x256, .f32⟩
  | .hbm, ⟨63, _⟩ => ⟨S2x640x384x256, .f32⟩
  | .hbm, ⟨64, _⟩ => ⟨S640x512x1x1, .bf16⟩
  | .hbm, ⟨65, _⟩ => ⟨S640x512, .bf16⟩
  | .hbm, ⟨66, _⟩ => ⟨S2x512x384x256, .bf16⟩
  | .hbm, ⟨67, _⟩ => ⟨S2x384x256x640, .f32⟩
  | .hbm, ⟨68, _⟩ => ⟨S2x640x384x256, .f32⟩
  | .hbm, ⟨69, _⟩ => ⟨S2x640x384x256, .f32⟩
  | .hbm, ⟨70, _⟩ => ⟨S1x640x1x1, .f32⟩
  | .hbm, ⟨71, _⟩ => ⟨S2x640x384x256, .f32⟩
  | .hbm, ⟨72, _⟩ => ⟨S2x640x384x256, .f32⟩
  | .hbm, ⟨73, _⟩ => ⟨S1x640x1x1, .f32⟩
  | .hbm, ⟨74, _⟩ => ⟨S2x640x384x256, .f32⟩
  | .hbm, ⟨75, _⟩ => ⟨S2x640x384x256, .f32⟩
  | .hbm, ⟨76, _⟩ => ⟨S2x640x384x256, .bf16⟩
  | .local _ .vmem, ⟨0, _⟩ => ⟨S2x512x192x128, .fp8e4m3⟩
  | .local _ .vmem, ⟨1, _⟩ => ⟨S2x192x128, .f32⟩
  | .local _ .vmem, ⟨2, _⟩ => ⟨S640x512x3x3, .fp8e4m3⟩
  | .local _ .vmem, ⟨3, _⟩ => ⟨S2x512x192x128, .bf16⟩
  | .local _ .vmem, ⟨4, _⟩ => ⟨S640x512x3x3, .bf16⟩
  | _, _ => ⟨S2x512x192x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x512x192x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S640x512x3x3 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640x512x3x3 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelFrame.lean ====
/-
  The frame of `Kernel`, with nothing claimed of its result: the pipeline's nine windows are all FORGOTTEN (each staging buffer is
  handed to the body at some contents and taken back at some contents), the five scratch buffers are held at some contents
  between grid points, and the body is run once for any grid point. The host lines after the region write `main_v22` and
  `main_v23` only, so every argument ends as it was launched and every semaphore ends at zero.
-/
module

public import proofs.«01_k».proof.Proof.Gen.Kernel.Frame
public import proofs.«01_k».proof.Proof.Gen.Kernel.Loops
public import Idealize.ShloMosaic.Lib.Pipeline.Frame
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

/-- All fourteen buffers the body touches, each held at some contents. -/
def held (c : Dev nD) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole) : sProp 𝕄 :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

/-- The body's triple, at any grid point: from the fourteen buffers at some contents it runs to its return and hands them back
    at some contents. The guarded stores of the first step are taken both ways; the loop over the output channels goes by its
    generated invariant. -/
theorem kernelRun (c : Dev nD) (i : grid0.Coords) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole) (K : PUnit → sProp 𝕄) :
    iprop(held (F := F) c arg2 harg2 arg3 harg3 arg4 harg4 arg5 harg5 arg6 harg6 arg7 harg7 arg8 harg8 arg9 harg9 arg10 harg10 arg11 harg11 arg12 harg12 arg13 harg13 arg14 harg14 arg15 harg15 ∗ (held (F := F) c arg2 harg2 arg3 harg3 arg4 harg4 arg5 harg5 arg6 harg6 arg7 harg7 arg8 harg8 arg9 harg9 arg10 harg10 arg11 harg11 arg12 harg12 arg13 harg13 arg14 harg14 arg15 harg15 -∗ K ⟨⟩))
      ⊢ wp frame (wpE (defs₀ (F := F)) Variants.none c none) Set.univ (cc0_up2conv3 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_up2conv3_eq_skeleton]; unfold cc0_up2conv3_skel held owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  by_cases hc : Scalar.cmpi .ne (Scalar.extui (Scalar.cmpi .eq (BitVec.ofNat 32 (i 1).val) 0#32) : BitVec 32) 0#32 = 1#1
  all_goals
    sl_exec (disch := sl_exact hc)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

/-! ## The proof data and the body obligation -/

/-- Every window is forgotten. -/
def forgets0 : Fin 9 → Bool := fun _ => true

/-- The proof data on core `c`: the arrays as the region finds them, nothing said of what the body leaves, the scratch at some
    contents, the input arrays' shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The arrays the region finds. -/
theorem A_eq (c : Dev nD) (w : Fin cfg0.W) : (dats m 0 c).A w = V m c (Pipeline.arrRef spec0 w) := by dsimp only [dats]

/-- The invariant, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d))
/-- What the body leaves at a grid point. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d))

/-- The body's triple at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4⟩, Hg⟩, HO, H0, H1, H2, H3, H4, H5, H6, H7, H8⟩
  iapply (kernelRun (F := F) c (grid0.coords t) _ _ _ _ _ _ _ _ _ _ _ _ _ _ _ _ _ _ _ _ _ _ _ _ _ _ _ _ _)
  unfold held
  isplitl [H0 H1 H2 H3 H4 H5 H6 H7 H8 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    iexact S4
  iintro ⟨H0, H1, H2, H3, H4, H5, H6, H7, H8, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at every grid point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write. -/
def T0 : Finset (Ref sig .tc) := {main_v22, main_v23}

/-- What the lines after the region write. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl <;>
    (simp only [StableHlo.unary_writes, StableHlo.reshape_writes, Finset.mem_singleton] at hb
     have := Proc.devRef_injective _ hb
     subst this; simp [T0])

set_option backward.isDefEq.respectTransparency.types false in
/-- From any memory with zero counters every weakly fair execution of @main ends, with every unscoped buffer that is no window's
    array and that no later host line writes as the region found it, and every semaphore at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame claim's post: the five arguments as launched, every semaphore at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    have hb (b : Ref sig .tc) (hs : b.isScoped = false) (ha : ∀ w, (spec0 w).arr.view.ref ≠ b) (ht : b ∉ T0) :=
      (h.1 c).2 b (Finset.mem_sdiff.mpr ⟨Pipeline.mem_restRefs_of b hs ha, ht⟩)
    ⟨(hb main_arg0 (by decide) (by decide) (by decide)).trans (V_main_arg0 m c),
     (hb main_arg1 (by decide) (by decide) (by decide)).trans (V_main_arg1 m c),
     (hb main_arg2 (by decide) (by decide) (by decide)).trans (V_main_arg2 m c),
     (hb main_arg3 (by decide) (by decide) (by decide)).trans (V_main_arg3 m c),
     (hb main_arg4 (by decide) (by decide) (by decide)).trans (V_main_arg4 m c)⟩, h.2⟩) (run_main m ρ)

end Cert.Kernel.Hand

end
-- ==== Proof.IdealFrame.lean ====
/-
  The frame of `KernelIdeal`, with nothing claimed of its result: the pipeline's nine windows are all FORGOTTEN (each staging buffer is
  handed to the body at some contents and taken back at some contents), the five scratch buffers are held at some contents
  between grid points, and the body is run once for any grid point. The host lines after the region write `main_v22` and
  `main_v23` only, so every argument ends as it was launched and every semaphore ends at zero.
-/
module

public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

/-- All fourteen buffers the body touches, each held at some contents. -/
def held (c : Dev nD) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole) : sProp 𝕄 :=
  iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d))

/-- The body's triple, at any grid point: from the fourteen buffers at some contents it runs to its return and hands them back
    at some contents. The guarded stores of the first step are taken both ways; the loop over the output channels goes by its
    generated invariant. -/
theorem kernelRun (c : Dev nD) (i : grid0.Coords) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole) (K : PUnit → sProp 𝕄) :
    iprop(held (F := F) c arg2 harg2 arg3 harg3 arg4 harg4 arg5 harg5 arg6 harg6 arg7 harg7 arg8 harg8 arg9 harg9 arg10 harg10 arg11 harg11 arg12 harg12 arg13 harg13 arg14 harg14 arg15 harg15 ∗ (held (F := F) c arg2 harg2 arg3 harg3 arg4 harg4 arg5 harg5 arg6 harg6 arg7 harg7 arg8 harg8 arg9 harg9 arg10 harg10 arg11 harg11 arg12 harg12 arg13 harg13 arg14 harg14 arg15 harg15 -∗ K ⟨⟩))
      ⊢ wp frame (wpE (defs₀ (F := F)) Variants.none c none) Set.univ (cc0_up2conv3 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_up2conv3_eq_skeleton]; unfold cc0_up2conv3_skel held owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩⟩, Hk⟩
  by_cases hc : Scalar.cmpi .ne (Scalar.extui (Scalar.cmpi .eq (BitVec.ofNat 32 (i 1).val) 0#32) : BitVec 32) 0#32 = 1#1
  all_goals
    sl_exec (disch := sl_exact hc)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

/-! ## The proof data and the body obligation -/

/-- Every window is forgotten. -/
def forgets0 : Fin 9 → Bool := fun _ => true

/-- The proof data on core `c`: the arrays as the region finds them, nothing said of what the body leaves, the scratch at some
    contents, the input arrays' shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The arrays the region finds. -/
theorem A_eq (c : Dev nD) (w : Fin cfg0.W) : (dats m 0 c).A w = V m c (Pipeline.arrRef spec0 w) := by dsimp only [dats]

/-- The invariant, conjunct by conjunct. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d))
/-- What the body leaves at a grid point. -/
def bodyPost (c : Dev nD) (t : Fin cfg0.N) : sProp 𝕄 :=
  iprop((dats m 0 c).Φ t.succ ∗ (dats m 0 c).owesAt () t.succ
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d))

/-- The body's triple at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4⟩, Hg⟩, HO, H0, H1, H2, H3, H4, H5, H6, H7, H8⟩
  iapply (kernelRun (F := F) c (grid0.coords t) _ _ _ _ _ _ _ _ _ _ _ _ _ _ _ _ _ _ _ _ _ _ _ _ _ _ _ _ _)
  unfold held
  isplitl [H0 H1 H2 H3 H4 H5 H6 H7 H8 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    iexact S4
  iintro ⟨H0, H1, H2, H3, H4, H5, H6, H7, H8, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at every grid point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write. -/
def T0 : Finset (Ref sig .tc) := {main_v22, main_v23}

/-- What the lines after the region write. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl <;>
    (simp only [StableHlo.unary_writes, StableHlo.reshape_writes, Finset.mem_singleton] at hb
     have := Proc.devRef_injective _ hb
     subst this; simp [T0])

set_option backward.isDefEq.respectTransparency.types false in
/-- From any memory with zero counters every weakly fair execution of @main ends, with every unscoped buffer that is no window's
    array and that no later host line writes as the region found it, and every semaphore at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl) (howed := fun _ _ => rfl)
    (V₀ := V0 m) (opss := [hostOps1]) (hsub := sfx_sub) (hfresh := sfx_fresh) (hkeep := sfx_keeps) (hT := sfx_writes)
    (hmain := hmain m Variants.none) (hA := A_eq m) (hΦ := fun _ _ => rfl)

/-- The frame claim's post: the five arguments as launched, every semaphore at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    have hb (b : Ref sig .tc) (hs : b.isScoped = false) (ha : ∀ w, (spec0 w).arr.view.ref ≠ b) (ht : b ∉ T0) :=
      (h.1 c).2 b (Finset.mem_sdiff.mpr ⟨Pipeline.mem_restRefs_of b hs ha, ht⟩)
    ⟨(hb main_arg0 (by decide) (by decide) (by decide)).trans (V_main_arg0 m c),
     (hb main_arg1 (by decide) (by decide) (by decide)).trans (V_main_arg1 m c),
     (hb main_arg2 (by decide) (by decide) (by decide)).trans (V_main_arg2 m c),
     (hb main_arg3 (by decide) (by decide) (by decide)).trans (V_main_arg3 m c),
     (hb main_arg4 (by decide) (by decide) (by decide)).trans (V_main_arg4 m c)⟩, h.2⟩) (run_main m ρ)

end Cert.KernelIdeal.Hand

end
-- ==== Proof.Spec.lean ====
/-
  The upsampled convolution, on extended reals, in the arrangement the kernel computes it in: products of one image row with the
  three taps of a kernel row, the sums of three image rows that make an output line, and the columns of that line. Lane `l` of a
  row stands for pixel `lane l`: even lanes hold the left half of the row, odd lanes the right half.
-/
module

public import Idealize.ShloMosaic.Lib.ValueIdx

@[expose] public section

noncomputable section

open scoped BigOperators

namespace Cert.Up

/-- The pixel of lane `l`. -/
def lane (l : Fin 128) : Fin 128 := ⟨l.val / 2 + l.val % 2 * 64, by omega⟩

/-- The pixel to the left of lane `l`'s, round the row. -/
def left (l : Fin 128) : Fin 128 := ⟨((lane l).val + 127) % 128, by omega⟩

/-- The lane of pixel `w`. -/
def laneOf (w : Fin 128) : Fin 128 := ⟨w.val % 64 * 2 + w.val / 64, by omega⟩

/-- The lane of the pixel to the right of lane `l`'s, round the row. -/
def right (l : Fin 128) : Fin 128 := laneOf ⟨((lane l).val + 1) % 128, by omega⟩

/-- The image row that row `r` of the kernel's walk reads: the walk starts three rows above the image and ends one below. -/
def clip (r : ℕ) : Fin 192 := ⟨min (r - 3) 191, by omega⟩

/-- One image with its scales, the weights with theirs, and the bias. -/
structure Conv where
  x : Fin 512 → Fin 192 → Fin 128 → EReal
  s : Fin 192 → Fin 128 → EReal
  w : Fin 640 → Fin 512 → Fin 3 → Fin 3 → EReal
  ws : Fin 640 → EReal
  bias : Fin 640 → EReal

namespace Conv

variable (K : Conv)

/-- The pixel scale at row `r` of the walk: zero outside the image. -/
def sc (r : ℕ) (w : Fin 128) : EReal := if 3 ≤ r ∧ r < 195 then K.s (clip r) w else 0

/-- Tap `(kh, kw)` of output channel `co` over the codes of one pixel. -/
def dot (co : Fin 640) (kh kw : Fin 3) (r : ℕ) (w : Fin 128) : EReal := ∑ c : Fin 512, K.w co c kh kw * K.x c (clip r) w

/-- The scaled taps of kernel row `kh` at row `r`: over the pixel to the left (0), the middle and the right tap over the pixel. -/
def n (r : ℕ) (m kh : Fin 3) (co : Fin 640) (l : Fin 128) : EReal :=
  match m, kh with
  | 0, kh => K.dot co kh 0 r (left l) * (K.sc r (left l) * K.ws co)
  | 1, 0 => K.dot co 0 1 r (lane l) * (K.sc r (lane l) * K.ws co)
  | 1, 1 => K.dot co 1 1 r (lane l) * (K.sc r (lane l) * K.ws co) + K.bias co
  | 1, 2 => K.dot co 2 1 r (lane l) * (K.sc r (lane l) * K.ws co)
  | 2, kh => K.dot co kh 2 r (lane l) * (K.sc r (lane l) * K.ws co)

/-- The taps of the row before row `r`; before the first row there are none. -/
def N (r : ℕ) (m kh : Fin 3) (co : Fin 640) (l : Fin 128) : EReal :=
  match r with
  | 0 => 0
  | r + 1 => K.n r m kh co l

/-- The even (0) and odd (1) columns of a line with the three sums `r`. -/
def cols (r : Fin 3 → Fin 128 → EReal) (p : Fin 2) (l : Fin 128) : EReal :=
  match p with
  | 0 => (if l = 0 then r 2 l else r 0 l + r 2 l) + r 1 l
  | 1 => (if right l = 0 then r 0 (right l) else r 0 (right l) + r 2 (right l)) + r 1 l

/-- The output line above row `r`. -/
def od (r : ℕ) (p : Fin 2) (co : Fin 640) (l : Fin 128) : EReal :=
  cols (fun m l => K.N r m 0 co l + K.N (r + 1) m 2 co l + K.N r m 1 co l) p l

/-- The output line at the row before row `r`. -/
def ev (r : ℕ) (p : Fin 2) (co : Fin 640) (l : Fin 128) : EReal :=
  match r with
  | 0 => 0
  | r + 1 => cols (fun m l => K.N r m 0 co l + K.N (r + 1) m 2 co l + K.N (r + 1) m 1 co l) p l

/-- Lane `l` of half `h` of a line: even and odd columns interleaved. -/
def half (x : Fin 2 → Fin 128 → EReal) (h : Fin 2) (l : Fin 128) : EReal :=
  match h with
  | 0 => if l.val % 2 = 0 then x 0 l else x 1 ⟨(l.val + 127) % 128, by omega⟩
  | 1 => if l.val % 2 = 0 then x 0 ⟨(l.val + 1) % 128, by omega⟩ else x 1 l

/-- Output line `y` of the eight that step `t` completes. -/
def block (t : ℕ) (co : Fin 640) (h : Fin 2) (y : Fin 8) (l : Fin 128) : EReal :=
  half (fun p l => if y.val % 2 = 0 then K.ev (4 * t + y.val / 2) p co l else K.od (4 * t + y.val / 2) p co l) h l

end Conv

end Cert.Up

end
-- ==== Proof.Tile.lean ====
/-
  One trip of the kernel's loop over channel blocks, written once for any of its four groups of eight channels and any of its
  four image rows: nine products per row, the carried sums of the two rows above, and the two output lines each row completes.
  The lists of stores the trip makes are these functions at the trip's loads, entry by entry.
-/
module

public import proofs.«01_k».proof.Proof.Gen.KernelIdeal.Loops

@[expose] public section

set_option maxRecDepth 65536

noncomputable section

namespace Cert.KernelIdeal.Hand

open Cert.KernelIdeal Cert.KernelIdeal.Gen
open Idealize.ShloMosaic

/-- The slice of group `g`, row `q` of a product of 96 rows: eight channels of kernel row `h`. -/
theorem slice96 (h : Fin 3) (g q : Fin 4) : S96x512.Slices ![32 * h.val + 8 * g.val, 128 * q.val] S8x128 := by
  revert h g q; decide

/-- The slice of group `g`, row `q` of a product of 192 rows: eight channels of tap `h`. -/
theorem slice192 (h : Fin 6) (g q : Fin 4) : S192x512.Slices ![32 * h.val + 8 * g.val, 128 * q.val] S8x128 := by
  revert h g q; decide

variable {F : FTy → Type} [FloatOps F]

/-- What one trip reads: the two products, per group of eight channels the channel scale and the bias, per image row the
    pixel scales of the centred and of the shifted pixels, the sums carried from the row above, and the three lane maps. -/
structure Trip (F : FTy → Type) where
  zp : FVec F S192x512 .f32
  za : FVec F S96x512 .f32
  ws : Fin 4 → FVec F S8x128 .f32
  bb : Fin 4 → FVec F S8x128 .f32
  sp : Fin 4 → FVec F S8x128 .f32
  sa : Fin 4 → FVec F S8x128 .f32
  c0 : Fin 3 → Fin 4 → FVec F S8x128 .f32
  c1 : Fin 3 → Fin 4 → FVec F S8x128 .f32
  e : Fin 2 → Fin 4 → FVec F S8x128 .f32
  nxt : IVec S1x128 32
  even : IVec S1x128 1
  first : IVec S1x128 1

/-- A row of lanes repeated on eight rows. -/
def bc {w : ℕ} (v : IVec S1x128 w) : IVec S8x128 w :=
  broadcastTo S8x128 (shapeCast S1x128 v shapeCasts_S1x128_S1x128) broadcasts_S1x128_S8x128

/-- The lane map as the gather takes it: a negative lane counts from the end. -/
def gatherIdx (v : IVec S1x128 32) : IVec S8x128 32 :=
  shapeCast S8x128 (shapeCast S8x128x1
    (select (cmpi .slt (bc v) (broadcast S8x128 0#32)) (addi (bc v) (broadcast S8x128 128#32)) (bc v))
    shapeCasts_S8x128_S8x128x1) shapeCasts_S8x128x1_S8x128

namespace Trip

variable (T : Trip F)

/-- The products of row `q`: of the pixel to the left (0), the pixel itself at the middle (1) and at the right tap (2). -/
def ch (g : Fin 4) (m h : Fin 3) (q : Fin 4) : FVec F S8x128 .f32 :=
  match m, h with
  | 0, h => mulf (extractStridedSlice S8x128 ![32 * h.val + 8 * g.val, 128 * q.val] T.za (slice96 h g q)) (mulf (T.sa q) (T.ws g))
  | 1, 0 => mulf (extractStridedSlice S8x128 ![32 * (0 : Fin 6).val + 8 * g.val, 128 * q.val] T.zp (slice192 0 g q)) (mulf (T.sp q) (T.ws g))
  | 1, 1 => addf (mulf (extractStridedSlice S8x128 ![32 * (1 : Fin 6).val + 8 * g.val, 128 * q.val] T.zp (slice192 1 g q)) (mulf (T.sp q) (T.ws g))) (T.bb g)
  | 1, 2 => mulf (extractStridedSlice S8x128 ![32 * (2 : Fin 6).val + 8 * g.val, 128 * q.val] T.zp (slice192 2 g q)) (mulf (T.sp q) (T.ws g))
  | 2, 0 => mulf (extractStridedSlice S8x128 ![32 * (3 : Fin 6).val + 8 * g.val, 128 * q.val] T.zp (slice192 3 g q)) (mulf (T.sp q) (T.ws g))
  | 2, 1 => mulf (extractStridedSlice S8x128 ![32 * (4 : Fin 6).val + 8 * g.val, 128 * q.val] T.zp (slice192 4 g q)) (mulf (T.sp q) (T.ws g))
  | 2, 2 => mulf (extractStridedSlice S8x128 ![32 * (5 : Fin 6).val + 8 * g.val, 128 * q.val] T.zp (slice192 5 g q)) (mulf (T.sp q) (T.ws g))

/-- The upper tap of the row before row `q`. -/
def up (g : Fin 4) (m : Fin 3) (q : Fin 4) : FVec F S8x128 .f32 :=
  match q with
  | 0 => T.c0 m g
  | 1 => T.ch g m 0 0
  | 2 => T.ch g m 0 1
  | 3 => T.ch g m 0 2

/-- The middle tap of the row before row `q`. -/
def mid (g : Fin 4) (m : Fin 3) (q : Fin 4) : FVec F S8x128 .f32 :=
  match q with
  | 0 => T.c1 m g
  | 1 => T.ch g m 1 0
  | 2 => T.ch g m 1 1
  | 3 => T.ch g m 1 2

/-- The sums of the output line above row `q`. -/
def r1 (g : Fin 4) (m : Fin 3) (q : Fin 4) : FVec F S8x128 .f32 := addf (addf (T.up g m q) (T.ch g m 2 q)) (T.mid g m q)

/-- The sums of the output line at row `q`. -/
def r0 (g : Fin 4) (m : Fin 3) (q : Fin 4) : FVec F S8x128 .f32 := addf (addf (T.up g m q) (T.ch g m 2 q)) (T.ch g m 1 q)

/-- The even (0) and odd (1) columns of an output line whose three sums are `r`. -/
def cols (r : Fin 3 → FVec F S8x128 .f32) (p : Fin 2) : FVec F S8x128 .f32 :=
  match p with
  | 0 => addf (select (bc T.first) (r 2) (addf (r 0) (r 2))) (r 1)
  | 1 => addf (dynamicGather 1 (select (bc T.first) (r 0) (addf (r 0) (r 2))) (gatherIdx T.nxt)) (r 1)

/-- The line completed by row `q`, above it. -/
def od (g q : Fin 4) (p : Fin 2) : FVec F S8x128 .f32 := T.cols (fun m => T.r1 g m q) p

/-- The line completed by the row before row `q`, at it. -/
def ev (g q : Fin 4) (p : Fin 2) : FVec F S8x128 .f32 :=
  match q with
  | 0 => T.e p g
  | 1 => T.cols (fun m => T.r0 g m 0) p
  | 2 => T.cols (fun m => T.r0 g m 1) p
  | 3 => T.cols (fun m => T.r0 g m 2) p

/-- The left (0) and right (1) half of an output line from its even and odd columns, lanes interleaved. -/
def half (x : Fin 2 → FVec F S8x128 .f32) (h : Fin 2) : FVec F S8x128 .bf16 :=
  match h with
  | 0 => select (bc T.even) (truncf .bf16 (x 0)) (dynamicRotate 1 1#32 none (truncf .bf16 (x 1)) rotates_S8x128_d1)
  | 1 => select (bc T.even) (dynamicRotate 1 127#32 none (truncf .bf16 (x 0)) rotates_S8x128_d1) (truncf .bf16 (x 1))

/-- The two output lines stored for row `q`, half `h`. -/
def word (g q : Fin 4) (h : Fin 2) : FVec F S1x8x1x1x2x128 .bf16 :=
  interleaveRows S1x8x1x1x2x128
    (shapeCast S1x8x1x1x1x128 (T.half (T.ev g q) h) shapeCasts_S8x128_S1x8x1x1x1x128)
    (shapeCast S1x8x1x1x1x128 (T.half (T.od g q) h) shapeCasts_S8x128_S1x8x1x1x1x128)
    bitcasts_S1x8x1x1x2x128_w16_S1x8x1x1x1x128_w32

/-- What is carried out of row 3: the upper tap. -/
def c0' (m : Fin 3) (g : Fin 4) : FVec F S1x8x128 .f32 := shapeCast S1x8x128 (T.ch g m 0 3) shapeCasts_S8x128_S1x8x128

/-- What is carried out of row 3: the middle tap. -/
def c1' (m : Fin 3) (g : Fin 4) : FVec F S1x8x128 .f32 := shapeCast S1x8x128 (T.ch g m 1 3) shapeCasts_S8x128_S1x8x128

/-- What is carried out of row 3: the line at it. -/
def e' (p : Fin 2) (g : Fin 4) : FVec F S1x8x128 .f32 := shapeCast S1x8x128 (T.cols (fun m => T.r0 g m 3) p) shapeCasts_S8x128_S1x8x128

end Trip

variable (𝒱 : Variants) (c : Dev nD) (bd : Option 𝒱.V) (i : grid0.Coords) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole) (v23 : IVec S1x128 32) (v27 : IVec S1x128 1) (v29 : IVec S1x128 1) (v86 : FVec F S8x128 .f32) (v96 : FVec F S8x128 .f32) (v153 : FVec F S8x128 .f32) (v163 : FVec F S8x128 .f32) (v220 : FVec F S8x128 .f32) (v230 : FVec F S8x128 .f32) (v277 : FVec F S8x128 .f32) (v287 : FVec F S8x128 .f32) (v289 : IVec S8x128 32) (c0_i32_103 : BitVec 32) (X_arg7 : BufTy.Contents (Elt F) arg7.view.ty) (X_arg8 : BufTy.Contents (Elt F) arg8.view.ty) (X_arg9 : BufTy.Contents (Elt F) arg9.view.ty) (X_arg11 : BufTy.Contents (Elt F) arg11.view.ty) (X_arg12 : BufTy.Contents (Elt F) arg12.view.ty)
variable (k : Fin k0_t1_loop.trips) (f10 : BufTy.Contents (Elt F) arg10.view.ty) (f13 : BufTy.Contents (Elt F) arg13.view.ty)
  (f14 : BufTy.Contents (Elt F) arg14.view.ty) (f15 : BufTy.Contents (Elt F) arg15.view.ty)

/-- The trip's loads. -/
def tripOf : Trip F where
  zp := matmul dot_S192x512_S512x512_S192x512_1_0_0_1_n_n none
    (shapeCast S192x512 (View.readAt (Elt F) arg7.view (Rect.unit (s := S5760x512) (k0_off2 k) S192x512.size (k0_off2_inb k)).toLoadRect X_arg7) shapeCasts_S192x512_S192x512)
    (View.readAt (Elt F) arg11.view (Rect.unit (s := S512x512) ![0, 0] S512x512.size inb_S512x512_S512x512_0_0).toLoadRect X_arg11)
    (constant S192x512 .f32 0x00000000#32)
  za := matmul dot_S96x512_S512x512_S96x512_1_0_0_1_n_n none
    (shapeCast S96x512 (View.readAt (Elt F) arg7.view (Rect.unit (s := S5760x512) (k0_off3 k) S96x512.size (k0_off3_inb k)).toLoadRect X_arg7) shapeCasts_S96x512_S96x512)
    (View.readAt (Elt F) arg12.view (Rect.unit (s := S512x512) ![0, 0] S512x512.size inb_S512x512_S512x512_0_0).toLoadRect X_arg12)
    (constant S96x512 .f32 0x00000000#32)
  ws g := shapeCast S8x128 (View.readAt (Elt F) arg8.view (Rect.unit (s := S640x128) (k0_off4 k (BitVec.ofNat 32 (8 * g.val))) S8x128.size (k0_off4_inb k g)).toLoadRect X_arg8) shapeCasts_S8x128_S8x128
  bb g := shapeCast S8x128 (View.readAt (Elt F) arg9.view (Rect.unit (s := S640x128) (k0_off4 k (BitVec.ofNat 32 (8 * g.val))) S8x128.size (k0_off4_inb k g)).toLoadRect X_arg9) shapeCasts_S8x128_S8x128
  sp q := match q with | 0 => v86 | 1 => v153 | 2 => v220 | 3 => v287
  sa q := match q with | 0 => v96 | 1 => v163 | 2 => v230 | 3 => k0_pay1 v277 v289 c0_i32_103
  c0 m g := match m with
    | 0 => shapeCast S8x128 (View.readAt (Elt F) arg13.view (Rect.unit (s := S3x640x128) (k0_off5 k (BitVec.ofNat 32 (8 * g.val))) S1x8x128.size (k0_off5_inb k g)).toLoadRect f13) shapeCasts_S1x8x128_S8x128
    | 1 => shapeCast S8x128 (View.readAt (Elt F) arg13.view (Rect.unit (s := S3x640x128) (k0_off6 k (BitVec.ofNat 32 (8 * g.val))) S1x8x128.size (k0_off6_inb k g)).toLoadRect f13) shapeCasts_S1x8x128_S8x128
    | 2 => shapeCast S8x128 (View.readAt (Elt F) arg13.view (Rect.unit (s := S3x640x128) (k0_off7 k (BitVec.ofNat 32 (8 * g.val))) S1x8x128.size (k0_off7_inb k g)).toLoadRect f13) shapeCasts_S1x8x128_S8x128
  c1 m g := match m with
    | 0 => shapeCast S8x128 (View.readAt (Elt F) arg14.view (Rect.unit (s := S3x640x128) (k0_off5 k (BitVec.ofNat 32 (8 * g.val))) S1x8x128.size (k0_off5_inb k g)).toLoadRect f14) shapeCasts_S1x8x128_S8x128
    | 1 => shapeCast S8x128 (View.readAt (Elt F) arg14.view (Rect.unit (s := S3x640x128) (k0_off6 k (BitVec.ofNat 32 (8 * g.val))) S1x8x128.size (k0_off6_inb k g)).toLoadRect f14) shapeCasts_S1x8x128_S8x128
    | 2 => shapeCast S8x128 (View.readAt (Elt F) arg14.view (Rect.unit (s := S3x640x128) (k0_off7 k (BitVec.ofNat 32 (8 * g.val))) S1x8x128.size (k0_off7_inb k g)).toLoadRect f14) shapeCasts_S1x8x128_S8x128
  e p g := match p with
    | 0 => shapeCast S8x128 (View.readAt (Elt F) arg15.view (Rect.unit (s := S2x640x128) (k0_off8 k (BitVec.ofNat 32 (8 * g.val))) S1x8x128.size (k0_off8_inb k g)).toLoadRect f15) shapeCasts_S1x8x128_S8x128
    | 1 => shapeCast S8x128 (View.readAt (Elt F) arg15.view (Rect.unit (s := S2x640x128) (k0_off9 k (BitVec.ofNat 32 (8 * g.val))) S1x8x128.size (k0_off9_inb k g)).toLoadRect f15) shapeCasts_S1x8x128_S8x128
  nxt := v23
  even := v27
  first := v29

/-- The stores of group `g` into a buffer of three planes. -/
def carried (w : Fin 3 → Fin 4 → FVec F S1x8x128 .f32) (g : Fin 4) : List (View.Piece (Elt F) S3x640x128 .f32) :=
  [⟨Rect.unit (k0_off7 k (BitVec.ofNat 32 (8 * g.val))) S1x8x128.size (k0_off7_inb k g), w 2 g⟩,
   ⟨Rect.unit (k0_off6 k (BitVec.ofNat 32 (8 * g.val))) S1x8x128.size (k0_off6_inb k g), w 1 g⟩,
   ⟨Rect.unit (k0_off5 k (BitVec.ofNat 32 (8 * g.val))) S1x8x128.size (k0_off5_inb k g), w 0 g⟩]

/-- The stores of group `g` into the buffer of the line at hand. -/
def carriedLine (w : Fin 2 → Fin 4 → FVec F S1x8x128 .f32) (g : Fin 4) : List (View.Piece (Elt F) S2x640x128 .f32) :=
  [⟨Rect.unit (k0_off9 k (BitVec.ofNat 32 (8 * g.val))) S1x8x128.size (k0_off9_inb k g), w 1 g⟩,
   ⟨Rect.unit (k0_off8 k (BitVec.ofNat 32 (8 * g.val))) S1x8x128.size (k0_off8_inb k g), w 0 g⟩]

local notation "TT" => tripOf arg7 arg8 arg9 arg11 arg12 arg13 arg14 arg15 v23 v27 v29 v86 v96 v153 v163 v220 v230 v277 v287 v289 c0_i32_103 X_arg7 X_arg8 X_arg9 X_arg11 X_arg12 k f13 f14 f15
local notation "LL" => trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 k

/-- One trip's stores into the sums of kernel row 0. -/
theorem stores13 : (LL).2.1 f10 f13 f14 f15
    = carried k (Trip.c0' (TT)) 3 ++ (carried k (Trip.c0' (TT)) 2 ++ (carried k (Trip.c0' (TT)) 1 ++ carried k (Trip.c0' (TT)) 0)) := by
  unfold trip_k0_t1; rfl

/-- One trip's stores into the sums of kernel row 1. -/
theorem stores14 : (LL).2.2.1 f10 f13 f14 f15
    = carried k (Trip.c1' (TT)) 3 ++ (carried k (Trip.c1' (TT)) 2 ++ (carried k (Trip.c1' (TT)) 1 ++ carried k (Trip.c1' (TT)) 0)) := by
  unfold trip_k0_t1; rfl

/-- One trip's stores into the even line. -/
theorem stores15 : (LL).2.2.2.1 f10 f13 f14 f15
    = carriedLine k (Trip.e' (TT)) 3 ++ (carriedLine k (Trip.e' (TT)) 2 ++ (carriedLine k (Trip.e' (TT)) 1 ++ carriedLine k (Trip.e' (TT)) 0)) := by
  unfold trip_k0_t1; rfl

/-- The stores into the output block, last first. -/
def lines (w : Fin 4 → Fin 4 → Fin 2 → FVec F S1x8x1x1x2x128 .bf16) : List (View.Piece (Elt F) S1x640x1x2x8x128 .bf16) :=
  [⟨Rect.unit (k0_off42 k) S1x8x1x1x2x128.size (k0_off42_inb k), w 3 3 1⟩,
   ⟨Rect.unit (k0_off41 k) S1x8x1x1x2x128.size (k0_off41_inb k), w 3 3 0⟩,
   ⟨Rect.unit (k0_off40 k) S1x8x1x1x2x128.size (k0_off40_inb k), w 3 2 1⟩,
   ⟨Rect.unit (k0_off39 k) S1x8x1x1x2x128.size (k0_off39_inb k), w 3 2 0⟩,
   ⟨Rect.unit (k0_off38 k) S1x8x1x1x2x128.size (k0_off38_inb k), w 3 1 1⟩,
   ⟨Rect.unit (k0_off37 k) S1x8x1x1x2x128.size (k0_off37_inb k), w 3 1 0⟩,
   ⟨Rect.unit (k0_off36 k) S1x8x1x1x2x128.size (k0_off36_inb k), w 3 0 1⟩,
   ⟨Rect.unit (k0_off35 k) S1x8x1x1x2x128.size (k0_off35_inb k), w 3 0 0⟩,
   ⟨Rect.unit (k0_off34 k) S1x8x1x1x2x128.size (k0_off34_inb k), w 2 3 1⟩,
   ⟨Rect.unit (k0_off33 k) S1x8x1x1x2x128.size (k0_off33_inb k), w 2 3 0⟩,
   ⟨Rect.unit (k0_off32 k) S1x8x1x1x2x128.size (k0_off32_inb k), w 2 2 1⟩,
   ⟨Rect.unit (k0_off31 k) S1x8x1x1x2x128.size (k0_off31_inb k), w 2 2 0⟩,
   ⟨Rect.unit (k0_off30 k) S1x8x1x1x2x128.size (k0_off30_inb k), w 2 1 1⟩,
   ⟨Rect.unit (k0_off29 k) S1x8x1x1x2x128.size (k0_off29_inb k), w 2 1 0⟩,
   ⟨Rect.unit (k0_off28 k) S1x8x1x1x2x128.size (k0_off28_inb k), w 2 0 1⟩,
   ⟨Rect.unit (k0_off27 k) S1x8x1x1x2x128.size (k0_off27_inb k), w 2 0 0⟩,
   ⟨Rect.unit (k0_off26 k) S1x8x1x1x2x128.size (k0_off26_inb k), w 1 3 1⟩,
   ⟨Rect.unit (k0_off25 k) S1x8x1x1x2x128.size (k0_off25_inb k), w 1 3 0⟩,
   ⟨Rect.unit (k0_off24 k) S1x8x1x1x2x128.size (k0_off24_inb k), w 1 2 1⟩,
   ⟨Rect.unit (k0_off23 k) S1x8x1x1x2x128.size (k0_off23_inb k), w 1 2 0⟩,
   ⟨Rect.unit (k0_off22 k) S1x8x1x1x2x128.size (k0_off22_inb k), w 1 1 1⟩,
   ⟨Rect.unit (k0_off21 k) S1x8x1x1x2x128.size (k0_off21_inb k), w 1 1 0⟩,
   ⟨Rect.unit (k0_off20 k) S1x8x1x1x2x128.size (k0_off20_inb k), w 1 0 1⟩,
   ⟨Rect.unit (k0_off19 k) S1x8x1x1x2x128.size (k0_off19_inb k), w 1 0 0⟩,
   ⟨Rect.unit (k0_off18 k) S1x8x1x1x2x128.size (k0_off18_inb k), w 0 3 1⟩,
   ⟨Rect.unit (k0_off17 k) S1x8x1x1x2x128.size (k0_off17_inb k), w 0 3 0⟩,
   ⟨Rect.unit (k0_off16 k) S1x8x1x1x2x128.size (k0_off16_inb k), w 0 2 1⟩,
   ⟨Rect.unit (k0_off15 k) S1x8x1x1x2x128.size (k0_off15_inb k), w 0 2 0⟩,
   ⟨Rect.unit (k0_off14 k) S1x8x1x1x2x128.size (k0_off14_inb k), w 0 1 1⟩,
   ⟨Rect.unit (k0_off13 k) S1x8x1x1x2x128.size (k0_off13_inb k), w 0 1 0⟩,
   ⟨Rect.unit (k0_off12 k) S1x8x1x1x2x128.size (k0_off12_inb k), w 0 0 1⟩,
   ⟨Rect.unit (k0_off11 k) S1x8x1x1x2x128.size (k0_off11_inb k), w 0 0 0⟩]

set_option maxHeartbeats 4000000 in
/-- One trip's stores into the output block. -/
theorem stores10 : (LL).1 f10 f13 f14 f15 = lines k (Trip.word (TT)) := by
  unfold trip_k0_t1; rfl

end Cert.KernelIdeal.Hand

end
-- ==== Proof.Step.lean ====
/-
  One trip of the loop over channel blocks at an element, on extended reals: if the trip's loads are the products, scales, sums
  and lane maps of a convolution, then so is everything it stores.
-/
module

public import proofs.«01_k».proof.Proof.Spec
public import proofs.«01_k».proof.Proof.Tile
public import Idealize.ShloMosaic.Lib.ValueLayout
public import Idealize.ShloMosaic.Lib.Pipeline.Value

@[expose] public section

set_option maxRecDepth 65536

noncomputable section

namespace Cert.KernelIdeal.Hand

open Cert.KernelIdeal Cert.KernelIdeal.Gen
open Idealize.ShloMosaic Idealize.ShloMosaic.ValueIdx
open Cert.Up

theorem bc_apply {w : ℕ} (v : IVec S1x128 w) (i : Fin 8) (l : Fin 128) : bc v (ix2 i l) = v (ix2 (0 : Fin 1) l) := by
  unfold bc
  refine (broadcastTo_1b_ab_apply (a := 8) (b := 128) _ broadcasts_S1x128_S8x128 i l).trans ?_
  unfold shapeCast
  rw [Shape.reshapeEquiv_self]

theorem gatherIdx_apply (v : IVec S1x128 32) (l r : Fin 128) (i : Fin 8) (hv : v (ix2 (0 : Fin 1) l) = BitVec.ofNat 32 r.val) :
    gatherIdx v (ix2 i l) = BitVec.ofNat 32 r.val := by
  unfold gatherIdx shapeCast
  rw [Shape.reshapeEquiv_reshapeEquiv, Shape.reshapeEquiv_self]
  show Scalar.select (IntOp.cmpi .slt (bc v (ix2 i l)) 0#32) (bc v (ix2 i l) + 128#32) (bc v (ix2 i l)) = _
  rw [bc_apply, hv]
  clear hv; revert r; decide

/-- The lane gather, read at an element. -/
theorem gather_apply {α : Type} (x : S8x128.Idx → α) (v : IVec S1x128 32) (l r : Fin 128) (i : Fin 8)
    (hv : v (ix2 (0 : Fin 1) l) = BitVec.ofNat 32 r.val) :
    dynamicGather (s := S8x128) 1 x (gatherIdx v) (ix2 i l) = x (ix2 i r) := by
  refine congrArg x (funext fun b => ?_)
  match b with
  | ⟨0, _⟩ => rfl
  | ⟨1, _⟩ =>
    refine Fin.ext ?_
    show (gatherIdx v (ix2 i l)).toNat % 128 = r.val
    rw [gatherIdx_apply v l r i hv]
    have := r.isLt
    simp only [BitVec.toNat_ofNat]; omega

/-- A rotation by `n` lanes at an index. -/
theorem rotate_apply {α : Type} (x : S8x128.Idx → α) (n : BitVec 32) (i : Fin 8) (l r : Fin 128)
    (hr : (l.val + 128 - n.toNat % 128) % 128 = r.val) :
    dynamicRotate (s := S8x128) 1 n none x rotates_S8x128_d1 (ix2 i l) = x (ix2 i r) := by
  refine congrArg x (funext fun b => ?_)
  match b with
  | ⟨0, _⟩ => rfl
  | ⟨1, _⟩ => exact Fin.ext hr

/-- The loads of one trip are those of convolution `K` at step `t`, for the channels `co g i`. -/
structure Agrees (T : Trip Ideal) (K : Conv) (t : ℕ) (co : Fin 4 → Fin 8 → Fin 640) : Prop where
  nxt : ∀ l : Fin 128, T.nxt (ix2 (0 : Fin 1) l) = BitVec.ofNat 32 (right l).val
  even : ∀ l : Fin 128, T.even (ix2 (0 : Fin 1) l) = if l.val % 2 = 0 then 1#1 else 0#1
  first : ∀ l : Fin 128, T.first (ix2 (0 : Fin 1) l) = if l = 0 then 1#1 else 0#1
  zp : ∀ (kh : Fin 3) (d : Fin 2) (g q : Fin 4) (i : Fin 8) (l : Fin 128),
    T.zp (ix2 (n0 := 192) (n1 := 512) ⟨32 * (kh.val + 3 * d.val) + 8 * g.val + i.val, by omega⟩ ⟨128 * q.val + l.val, by omega⟩)
      = K.dot (co g i) kh d.succ (4 * t + q.val) (lane l)
  za : ∀ (kh : Fin 3) (g q : Fin 4) (i : Fin 8) (l : Fin 128),
    T.za (ix2 (n0 := 96) (n1 := 512) ⟨32 * kh.val + 8 * g.val + i.val, by omega⟩ ⟨128 * q.val + l.val, by omega⟩)
      = K.dot (co g i) kh 0 (4 * t + q.val) (left l)
  ws : ∀ g i (l : Fin 128), T.ws g (ix2 i l) = K.ws (co g i)
  bb : ∀ g i (l : Fin 128), T.bb g (ix2 i l) = K.bias (co g i)
  sp : ∀ (q : Fin 4) (i : Fin 8) (l : Fin 128), T.sp q (ix2 i l) = K.sc (4 * t + q.val) (lane l)
  sa : ∀ (q : Fin 4) (i : Fin 8) (l : Fin 128), T.sa q (ix2 i l) = K.sc (4 * t + q.val) (left l)
  c0 : ∀ m g i l, T.c0 m g (ix2 i l) = K.N (4 * t) m 0 (co g i) l
  c1 : ∀ m g i l, T.c1 m g (ix2 i l) = K.N (4 * t) m 1 (co g i) l
  e : ∀ p g i l, T.e p g (ix2 i l) = K.ev (4 * t) p (co g i) l

namespace Agrees

variable {T : Trip Ideal} {K : Conv} {t : ℕ} {co : Fin 4 → Fin 8 → Fin 640} (A : Agrees T K t co)
include A

/-- The scaled taps of a row. -/
theorem ch (g : Fin 4) (m kh : Fin 3) (q : Fin 4) (i : Fin 8) (l : Fin 128) :
    T.ch g m kh q (ix2 i l) = K.N (4 * t + q.val + 1) m kh (co g i) l := by
  have hz : ∀ (h : Fin 6) (kh : Fin 3) (d : Fin 2), h.val = kh.val + 3 * d.val →
      mulf (extractStridedSlice S8x128 ![32 * h.val + 8 * g.val, 128 * q.val] T.zp (slice192 h g q)) (mulf (T.sp q) (T.ws g)) (ix2 i l)
        = K.dot (co g i) kh d.succ (4 * t + q.val) (lane l) * (K.sc (4 * t + q.val) (lane l) * K.ws (co g i)) := by
    intro h kh d e
    rw [mulf_apply, mulf_apply, A.sp, A.ws, ← A.zp kh d g q i l]
    congr 1
    unfold extractStridedSlice
    congr 1; funext b
    match b with
    | ⟨0, _⟩ => exact Fin.ext (by show 32 * h.val + 8 * g.val + i.val = 32 * (kh.val + 3 * d.val) + 8 * g.val + i.val; rw [e])
    | ⟨1, _⟩ => rfl
  have ha : mulf (extractStridedSlice S8x128 ![32 * kh.val + 8 * g.val, 128 * q.val] T.za (slice96 kh g q)) (mulf (T.sa q) (T.ws g)) (ix2 i l)
        = K.dot (co g i) kh 0 (4 * t + q.val) (left l) * (K.sc (4 * t + q.val) (left l) * K.ws (co g i)) := by
    rw [mulf_apply, mulf_apply, A.sa, A.ws, ← A.za kh g q i l]
    congr 1
    unfold extractStridedSlice
    congr 1; funext b
    match b with
    | ⟨0, _⟩ => rfl
    | ⟨1, _⟩ => rfl
  match m, kh with
  | 0, _ => exact ha
  | 1, 0 => exact hz 0 0 0 rfl
  | 1, 1 => exact (congrArg₂ (· + ·) (hz 1 1 0 rfl) (A.bb g i l) : _)
  | 1, 2 => exact hz 2 2 0 rfl
  | 2, 0 => exact hz 3 0 1 rfl
  | 2, 1 => exact hz 4 1 1 rfl
  | 2, 2 => exact hz 5 2 1 rfl

/-- The carried sums of kernel row 0. -/
theorem up (g : Fin 4) (m : Fin 3) (q : Fin 4) (i : Fin 8) (l : Fin 128) :
    T.up g m q (ix2 i l) = K.N (4 * t + q.val) m 0 (co g i) l := by
  match q with
  | 0 => exact A.c0 m g i l
  | 1 => exact A.ch g m 0 0 i l
  | 2 => exact A.ch g m 0 1 i l
  | 3 => exact A.ch g m 0 2 i l

/-- The carried sums of kernel row 1. -/
theorem mid (g : Fin 4) (m : Fin 3) (q : Fin 4) (i : Fin 8) (l : Fin 128) :
    T.mid g m q (ix2 i l) = K.N (4 * t + q.val) m 1 (co g i) l := by
  match q with
  | 0 => exact A.c1 m g i l
  | 1 => exact A.ch g m 1 0 i l
  | 2 => exact A.ch g m 1 1 i l
  | 3 => exact A.ch g m 1 2 i l

/-- A choice by whether the lane is the first. -/
theorem first_select (x y : FVec Ideal S8x128 .f32) (i : Fin 8) (l : Fin 128) :
    select (bc T.first) x y (ix2 i l) = if l = 0 then x (ix2 i l) else y (ix2 i l) := by
  show Scalar.select (bc T.first (ix2 i l)) _ _ = _
  rw [bc_apply, A.first]
  by_cases h : l = 0 <;> simp [Scalar.select, h]

/-- A choice by whether the lane is even. -/
theorem even_select {φ : FTy} (x y : FVec Ideal S8x128 φ) (i : Fin 8) (l : Fin 128) :
    select (bc T.even) x y (ix2 i l) = if l.val % 2 = 0 then x (ix2 i l) else y (ix2 i l) := by
  show Scalar.select (bc T.even (ix2 i l)) _ _ = _
  rw [bc_apply, A.even]
  by_cases h : l.val % 2 = 0 <;> simp [Scalar.select, h]

/-- The even and odd columns. -/
theorem cols (r : Fin 3 → FVec Ideal S8x128 .f32) (i : Fin 8) (f : Fin 3 → Fin 128 → EReal) (hr : ∀ m l, r m (ix2 i l) = f m l)
    (p : Fin 2) (l : Fin 128) : T.cols r p (ix2 i l) = Conv.cols f p l := by
  match p with
  | 0 =>
    show addf (select (bc T.first) (r 2) (addf (r 0) (r 2))) (r 1) (ix2 i l) = _
    rw [addf_apply, A.first_select, addf_apply, hr, hr, hr]; rfl
  | 1 =>
    show addf (dynamicGather 1 (select (bc T.first) (r 0) (addf (r 0) (r 2))) (gatherIdx T.nxt)) (r 1) (ix2 i l) = _
    rw [addf_apply, gather_apply _ _ l (right l) i (A.nxt l), A.first_select, addf_apply, hr, hr, hr]; rfl

/-- The three sums of a line at a row. -/
theorem r0 (g : Fin 4) (m : Fin 3) (q : Fin 4) (i : Fin 8) (l : Fin 128) : T.r0 g m q (ix2 i l)
    = K.N (4 * t + q.val) m 0 (co g i) l + K.N (4 * t + q.val + 1) m 2 (co g i) l + K.N (4 * t + q.val + 1) m 1 (co g i) l := by
  unfold Trip.r0
  rw [addf_apply, addf_apply, A.up, A.ch, A.ch]

/-- The three sums of the line above a row. -/
theorem r1 (g : Fin 4) (m : Fin 3) (q : Fin 4) (i : Fin 8) (l : Fin 128) : T.r1 g m q (ix2 i l)
    = K.N (4 * t + q.val) m 0 (co g i) l + K.N (4 * t + q.val + 1) m 2 (co g i) l + K.N (4 * t + q.val) m 1 (co g i) l := by
  unfold Trip.r1
  rw [addf_apply, addf_apply, A.up, A.ch, A.mid]

/-- The line above a row. -/
theorem od (g q : Fin 4) (p : Fin 2) (i : Fin 8) (l : Fin 128) : T.od g q p (ix2 i l) = K.od (4 * t + q.val) p (co g i) l :=
  A.cols _ i _ (fun m l => A.r1 g m q i l) p l

/-- The line at a row. -/
theorem line (g q : Fin 4) (p : Fin 2) (i : Fin 8) (l : Fin 128) :
    T.cols (fun m => T.r0 g m q) p (ix2 i l) = K.ev (4 * t + q.val + 1) p (co g i) l :=
  A.cols _ i _ (fun m l => A.r0 g m q i l) p l

/-- The carried even line. -/
theorem ev (g q : Fin 4) (p : Fin 2) (i : Fin 8) (l : Fin 128) : T.ev g q p (ix2 i l) = K.ev (4 * t + q.val) p (co g i) l := by
  match q with
  | 0 => exact A.e p g i l
  | 1 => exact A.line g 0 p i l
  | 2 => exact A.line g 1 p i l
  | 3 => exact A.line g 2 p i l

/-- The two halves of a line. -/
theorem half (x : Fin 2 → FVec Ideal S8x128 .f32) (f : Fin 2 → Fin 128 → EReal) (i : Fin 8) (hx : ∀ p l, x p (ix2 i l) = f p l)
    (h : Fin 2) (l : Fin 128) : T.half x h (ix2 i l) = Conv.half f h l := by
  match h with
  | 0 =>
    show select (bc T.even) (truncf .bf16 (x 0)) (dynamicRotate 1 1#32 none (truncf .bf16 (x 1)) rotates_S8x128_d1) (ix2 i l) = _
    rw [A.even_select, rotate_apply _ 1#32 i l ⟨(l.val + 127) % 128, by omega⟩ (by show (l.val + 128 - 1 % 128) % 128 = (l.val + 127) % 128; omega),
      truncf_apply, truncf_apply, hx, hx]; rfl
  | 1 =>
    show select (bc T.even) (dynamicRotate 1 127#32 none (truncf .bf16 (x 0)) rotates_S8x128_d1) (truncf .bf16 (x 1)) (ix2 i l) = _
    rw [A.even_select, rotate_apply _ 127#32 i l ⟨(l.val + 1) % 128, by omega⟩ (by show (l.val + 128 - 127 % 128) % 128 = (l.val + 1) % 128; omega),
      truncf_apply, truncf_apply, hx, hx]; rfl

/-- The sums of kernel row 0 handed to the next step. -/
theorem c0' (m : Fin 3) (g : Fin 4) (i : Fin 8) (l : Fin 128) :
    T.c0' m g (ix3 (0 : Fin 1) i l) = K.N (4 * (t + 1)) m 0 (co g i) l :=
  (shapeCast_ab_1ab_apply (a := 8) (b := 128) _ shapeCasts_S8x128_S1x8x128 0 i l).trans (A.ch g m 0 3 i l)

/-- The sums of kernel row 1 handed to the next step. -/
theorem c1' (m : Fin 3) (g : Fin 4) (i : Fin 8) (l : Fin 128) :
    T.c1' m g (ix3 (0 : Fin 1) i l) = K.N (4 * (t + 1)) m 1 (co g i) l :=
  (shapeCast_ab_1ab_apply (a := 8) (b := 128) _ shapeCasts_S8x128_S1x8x128 0 i l).trans (A.ch g m 1 3 i l)

/-- The even line handed to the next step. -/
theorem e' (p : Fin 2) (g : Fin 4) (i : Fin 8) (l : Fin 128) :
    T.e' p g (ix3 (0 : Fin 1) i l) = K.ev (4 * (t + 1)) p (co g i) l :=
  (shapeCast_ab_1ab_apply (a := 8) (b := 128) _ shapeCasts_S8x128_S1x8x128 0 i l).trans (A.line g 3 p i l)

/-- Two output lines, as they are stored. -/
theorem word (g q : Fin 4) (h : Fin 2) (i : Fin 8) (y : Fin 2) (l : Fin 128) :
    T.word g q h (ix6 (0 : Fin 1) i (0 : Fin 1) (0 : Fin 1) y l)
      = K.block t (co g i) h ⟨2 * q.val + y.val, by omega⟩ l := by
  have hcast : ∀ v : FVec Ideal S8x128 .bf16,
      shapeCast S1x8x1x1x1x128 v shapeCasts_S8x128_S1x8x1x1x1x128 (ix6 (0 : Fin 1) i (0 : Fin 1) (0 : Fin 1) (0 : Fin 1) l) = v (ix2 i l) :=
    fun v => shapeCast_apply (s := S8x128) (t := S1x8x1x1x1x128) v _ _ (ix2 i l) (by
      rw [Shape.rowMajor_val_two, Shape.rowMajor_val_six]
      show i.val * 128 + l.val = ((((0 * 8 + i.val) * 1 + 0) * 1 + 0) * 1 + 0) * 128 + l.val
      omega)
  have hj : ∀ lo hi : FVec Ideal S1x8x1x1x1x128 .bf16,
      interleaveRows S1x8x1x1x2x128 lo hi bitcasts_S1x8x1x1x2x128_w16_S1x8x1x1x1x128_w32 (ix6 (0 : Fin 1) i (0 : Fin 1) (0 : Fin 1) y l)
        = if y.val % 2 = 0 then lo (ix6 (0 : Fin 1) i (0 : Fin 1) (0 : Fin 1) (0 : Fin 1) l) else hi (ix6 (0 : Fin 1) i (0 : Fin 1) (0 : Fin 1) (0 : Fin 1) l) := by
    intro lo hi
    unfold interleaveRows
    have e : ∀ f : FVec Ideal S1x8x1x1x1x128 .bf16, ∀ j, (∀ b, (j b).val = (ix6 (0 : Fin 1) i (0 : Fin 1) (0 : Fin 1) (0 : Fin 1) l b).val) →
        f j = f (ix6 (0 : Fin 1) i (0 : Fin 1) (0 : Fin 1) (0 : Fin 1) l) := fun f j hj => congrArg f (funext fun b => Fin.ext (hj b))
    have hrow : S1x8x1x1x2x128.row (ix6 (0 : Fin 1) i (0 : Fin 1) (0 : Fin 1) y l) = y.val := rfl
    simp only [hrow]
    split
    all_goals
      refine e _ _ fun b => ?_
      match b with
      | ⟨0, _⟩ => rfl
      | ⟨1, _⟩ => rfl
      | ⟨2, _⟩ => rfl
      | ⟨3, _⟩ => rfl
      | ⟨4, _⟩ => show y.val / 2 = 0; omega
      | ⟨5, _⟩ => rfl
  unfold Trip.word
  rw [hj, hcast, hcast, A.half _ _ i (fun p l => A.ev g q p i l), A.half _ _ i (fun p l => A.od g q p i l)]
  unfold Conv.block
  have h1 : (2 * q.val + y.val) % 2 = y.val % 2 := by omega
  have h2 : (2 * q.val + y.val) / 2 = q.val := by omega
  simp only [h1, h2]
  split <;> simp only [*] <;> rfl

end Agrees

end Cert.KernelIdeal.Hand

end
-- ==== Proof.Stores.lean ====
/-
  The loop over channel blocks on extended reals: after its twenty trips the carried sums are those of the step's last image
  row, and the output block holds the eight lines the step completes.
-/
module

public import proofs.«01_k».proof.Proof.Step
public import Idealize.ShloMosaic.Lib.WritesUnit

@[expose] public section

set_option maxRecDepth 65536

noncomputable section

namespace Cert.KernelIdeal.Hand

open Cert.KernelIdeal Cert.KernelIdeal.Gen
open Idealize.ShloMosaic Idealize.ShloMosaic.ValueIdx
open Cert.Up

/-- The loop runs over twenty channel blocks. -/
theorem trips_eq : k0_t1_loop.trips = 20 := by decide +kernel

theorem trip_lt (k : Fin k0_t1_loop.trips) : k.val < 20 := lt_of_lt_of_eq k.isLt trips_eq

/-- Channel `i` of group `g` of block `k`. -/
def chan (k : Fin k0_t1_loop.trips) (g : Fin 4) (i : Fin 8) : Fin 640 :=
  ⟨32 * k.val + 8 * g.val + i.val, by have := trip_lt k; omega⟩

/-- A store through a unit-stride rectangle is known by its offset. -/
theorem piece_congr {s : Shape} {e : EltTy} {off off' size : Fin s.rank → ℕ} (h : off = off')
    (inb : ∀ a, off a + size a ≤ s.size a) (inb' : ∀ a, off' a + size a ≤ s.size a)
    (w : (⟨s.rank, size⟩ : Shape).Idx → Elt Ideal e) :
    @Eq (View.Piece (Elt Ideal) s e) ⟨Rect.unit off size inb, w⟩ ⟨Rect.unit off' size inb', w⟩ := by subst h; rfl

/-- A read through a unit-stride rectangle at an element. -/
theorem readAt_unit_apply {s : Shape} {e : EltTy} (m : Memref sig .tc .vmem s e) (X : BufTy.Contents (Elt Ideal) m.view.ty)
    {off off' size : Fin s.rank → ℕ} (h : off = off') (inb : ∀ a, off a + size a ≤ s.size a)
    (x : (⟨s.rank, size⟩ : Shape).Idx) (y : s.Idx) (hy : ∀ a, (y a).val = off' a + (x a).val) :
    View.readAt (Elt Ideal) m.view (Rect.unit (s := s) off size inb).toLoadRect X x = m.view.read (Elt Ideal) X y := by
  subst h
  refine congrArg (m.view.read (Elt Ideal) X) (funext fun a => Fin.ext ?_)
  show off a + 1 * (x a).val = _
  rw [hy, Nat.one_mul]

section Carried

variable (k : Fin k0_t1_loop.trips)

/-- The stores of a trip into the buffer of three planes leave the trip's channels at what was stored, the rest as it was. -/
theorem carried_read (m : Memref sig .tc .vmem S3x640x128 .f32) (f : BufTy.Contents (Elt Ideal) m.view.ty)
    (w : Fin 3 → Fin 4 → FVec Ideal S1x8x128 .f32) (G : Fin 3 → Fin 640 → Fin 128 → EReal)
    (hw : ∀ p g i l, w p g (ix3 (0 : Fin 1) i l) = G p (chan k g i) l) (p : Fin 3) (co : Fin 640) (l : Fin 128) :
    m.view.read (Elt Ideal) (m.view.writes (Elt Ideal) f (carried k w 3 ++ (carried k w 2 ++ (carried k w 1 ++ carried k w 0)))) (ix3 p co l)
      = if 32 * k.val ≤ co.val ∧ co.val < 32 * k.val + 32 then G p co l else m.view.read (Elt Ideal) f (ix3 p co l) := by
  have hk := trip_lt k
  have hinb : ∀ (p : Fin 3) (g : Fin 4), ∀ a, (![p.val, 32 * k.val + 8 * g.val, 0] : Fin 3 → ℕ) a + S1x8x128.size a ≤ S3x640x128.size a := by
    intro p g a
    match a with
    | ⟨0, _⟩ => show p.val + 1 ≤ 3; omega
    | ⟨1, _⟩ => show 32 * k.val + 8 * g.val + 8 ≤ 640; omega
    | ⟨2, _⟩ => show 0 + 128 ≤ 128; omega
  let P : Fin 3 → Fin 4 → View.Piece (Elt Ideal) S3x640x128 .f32 := fun p g => ⟨Rect.unit (s := S3x640x128) ![p.val, 32 * k.val + 8 * g.val, 0] S1x8x128.size (hinb p g), w p g⟩
  have hL : ∀ g, carried k w g = [P 2 g, P 1 g, P 0 g] := by
    intro g
    unfold carried
    congr 1
    · exact piece_congr (s := S3x640x128) (e := .f32) (size := S1x8x128.size) (k0_off7_eq k g) _ (hinb 2 g) (w 2 g)
    congr 1
    · exact piece_congr (s := S3x640x128) (e := .f32) (size := S1x8x128.size) (k0_off6_eq k g) _ (hinb 1 g) (w 1 g)
    congr 1
    exact piece_congr (s := S3x640x128) (e := .f32) (size := S1x8x128.size) (k0_off5_eq k g) _ (hinb 0 g) (w 0 g)
  rw [hL, hL, hL, hL]
  split
  case isTrue hc =>
    refine (View.read_writes_apply_of_pieces m.view f (fun y => G (y 0) (y 1) (y 2)) _ ?_ (ix3 p co l) ?_).trans rfl
    · have hP : ∀ p g, ∀ x : (P p g).1.shape.Idx, (P p g).2 x = G ((P p g).1.emb x 0) ((P p g).1.emb x 1) ((P p g).1.emb x 2) := by
        intro p g x
        obtain ⟨i0, i, l, rfl⟩ : ∃ (i0 : Fin 1) (i : Fin 8) (l : Fin 128), x = ix3 i0 i l := ⟨x 0, x 1, x 2, eq_ix3 (n0 := 1) (n1 := 8) (n2 := 128) x⟩
        obtain rfl : i0 = 0 := Fin.fin_one_eq_zero i0
        refine (hw p g i l).trans ?_
        have e0 : p = (P p g).1.emb (ix3 (0 : Fin 1) i l) 0 := Fin.ext (by show p.val = p.val + 1 * 0; omega)
        have e1 : chan k g i = (P p g).1.emb (ix3 (0 : Fin 1) i l) 1 :=
          Fin.ext (by show 32 * k.val + 8 * g.val + i.val = 32 * k.val + 8 * g.val + 1 * i.val; omega)
        have e2 : l = (P p g).1.emb (ix3 (0 : Fin 1) i l) 2 := Fin.ext (by show l.val = 0 + 1 * l.val; omega)
        exact congr (congr (congrArg G e0) e1) e2
      simp only [List.cons_append, List.nil_append, List.forall_mem_cons, List.not_mem_nil, false_imp_iff, implies_true, and_true, hP]
    · refine ⟨P p ⟨(co.val - 32 * k.val) / 8, by omega⟩, ?_, ?_⟩
      · have : ∀ p g, P p g ∈ [P 2 3, P 1 3, P 0 3] ++ ([P 2 2, P 1 2, P 0 2] ++ ([P 2 1, P 1 1, P 0 1] ++ [P 2 0, P 1 0, P 0 0])) := by
          intro p g
          match p, g with
          | 0, 0 => simp | 0, 1 => simp | 0, 2 => simp | 0, 3 => simp
          | 1, 0 => simp | 1, 1 => simp | 1, 2 => simp | 1, 3 => simp
          | 2, 0 => simp | 2, 1 => simp | 2, 2 => simp | 2, 3 => simp
        exact this _ _
      · refine (Rect.mem_set_unit (inb := hinb _ _)).mpr fun a => ?_
        match a with
        | ⟨0, _⟩ => show p.val ≤ p.val ∧ p.val < p.val + 1; omega
        | ⟨1, _⟩ => show 32 * k.val + 8 * ((co.val - 32 * k.val) / 8) ≤ co.val ∧ co.val < 32 * k.val + 8 * ((co.val - 32 * k.val) / 8) + 8; omega
        | ⟨2, _⟩ => show 0 ≤ l.val ∧ l.val < 0 + 128; omega
  case isFalse hc =>
    refine View.read_writes_apply_of_forall_not_mem m.view f _ _ ?_
    have hP : ∀ p' g, ix3 p co l ∉ (P p' g).1.set := by
      intro p' g hm
      have h1 : 32 * k.val + 8 * g.val ≤ co.val ∧ co.val < 32 * k.val + 8 * g.val + 8 := (Rect.mem_set_unit (inb := hinb _ _)).mp hm 1
      omega
    simp only [List.cons_append, List.nil_append, List.forall_mem_cons, List.not_mem_nil, false_imp_iff, implies_true, and_true, hP, not_false_eq_true]

/-- The same for the buffer of the line at hand. -/
theorem carriedLine_read (m : Memref sig .tc .vmem S2x640x128 .f32) (f : BufTy.Contents (Elt Ideal) m.view.ty)
    (w : Fin 2 → Fin 4 → FVec Ideal S1x8x128 .f32) (G : Fin 2 → Fin 640 → Fin 128 → EReal)
    (hw : ∀ p g i l, w p g (ix3 (0 : Fin 1) i l) = G p (chan k g i) l) (p : Fin 2) (co : Fin 640) (l : Fin 128) :
    m.view.read (Elt Ideal) (m.view.writes (Elt Ideal) f (carriedLine k w 3 ++ (carriedLine k w 2 ++ (carriedLine k w 1 ++ carriedLine k w 0)))) (ix3 p co l)
      = if 32 * k.val ≤ co.val ∧ co.val < 32 * k.val + 32 then G p co l else m.view.read (Elt Ideal) f (ix3 p co l) := by
  have hk := trip_lt k
  have hinb : ∀ (p : Fin 2) (g : Fin 4), ∀ a, (![p.val, 32 * k.val + 8 * g.val, 0] : Fin 3 → ℕ) a + S1x8x128.size a ≤ S2x640x128.size a := by
    intro p g a
    match a with
    | ⟨0, _⟩ => show p.val + 1 ≤ 2; omega
    | ⟨1, _⟩ => show 32 * k.val + 8 * g.val + 8 ≤ 640; omega
    | ⟨2, _⟩ => show 0 + 128 ≤ 128; omega
  let P : Fin 2 → Fin 4 → View.Piece (Elt Ideal) S2x640x128 .f32 := fun p g => ⟨Rect.unit (s := S2x640x128) ![p.val, 32 * k.val + 8 * g.val, 0] S1x8x128.size (hinb p g), w p g⟩
  have hL : ∀ g, carriedLine k w g = [P 1 g, P 0 g] := by
    intro g
    unfold carriedLine
    congr 1
    · exact piece_congr (s := S2x640x128) (e := .f32) (size := S1x8x128.size) (k0_off9_eq k g) _ (hinb 1 g) (w 1 g)
    congr 1
    exact piece_congr (s := S2x640x128) (e := .f32) (size := S1x8x128.size) (k0_off8_eq k g) _ (hinb 0 g) (w 0 g)
  rw [hL, hL, hL, hL]
  split
  case isTrue hc =>
    refine (View.read_writes_apply_of_pieces m.view f (fun y => G (y 0) (y 1) (y 2)) _ ?_ (ix3 p co l) ?_).trans rfl
    · have hP : ∀ p g, ∀ x : (P p g).1.shape.Idx, (P p g).2 x = G ((P p g).1.emb x 0) ((P p g).1.emb x 1) ((P p g).1.emb x 2) := by
        intro p g x
        obtain ⟨i0, i, l, rfl⟩ : ∃ (i0 : Fin 1) (i : Fin 8) (l : Fin 128), x = ix3 i0 i l := ⟨x 0, x 1, x 2, eq_ix3 (n0 := 1) (n1 := 8) (n2 := 128) x⟩
        obtain rfl : i0 = 0 := Fin.fin_one_eq_zero i0
        refine (hw p g i l).trans ?_
        have e0 : p = (P p g).1.emb (ix3 (0 : Fin 1) i l) 0 := Fin.ext (by show p.val = p.val + 1 * 0; omega)
        have e1 : chan k g i = (P p g).1.emb (ix3 (0 : Fin 1) i l) 1 :=
          Fin.ext (by show 32 * k.val + 8 * g.val + i.val = 32 * k.val + 8 * g.val + 1 * i.val; omega)
        have e2 : l = (P p g).1.emb (ix3 (0 : Fin 1) i l) 2 := Fin.ext (by show l.val = 0 + 1 * l.val; omega)
        exact congr (congr (congrArg G e0) e1) e2
      simp only [List.cons_append, List.nil_append, List.forall_mem_cons, List.not_mem_nil, false_imp_iff, implies_true, and_true, hP]
    · refine ⟨P p ⟨(co.val - 32 * k.val) / 8, by omega⟩, ?_, ?_⟩
      · have : ∀ p g, P p g ∈ [P 1 3, P 0 3] ++ ([P 1 2, P 0 2] ++ ([P 1 1, P 0 1] ++ [P 1 0, P 0 0])) := by
          intro p g
          match p, g with
          | 0, 0 => simp | 0, 1 => simp | 0, 2 => simp | 0, 3 => simp
          | 1, 0 => simp | 1, 1 => simp | 1, 2 => simp | 1, 3 => simp
        exact this _ _
      · refine (Rect.mem_set_unit (inb := hinb _ _)).mpr fun a => ?_
        match a with
        | ⟨0, _⟩ => show p.val ≤ p.val ∧ p.val < p.val + 1; omega
        | ⟨1, _⟩ => show 32 * k.val + 8 * ((co.val - 32 * k.val) / 8) ≤ co.val ∧ co.val < 32 * k.val + 8 * ((co.val - 32 * k.val) / 8) + 8; omega
        | ⟨2, _⟩ => show 0 ≤ l.val ∧ l.val < 0 + 128; omega
  case isFalse hc =>
    refine View.read_writes_apply_of_forall_not_mem m.view f _ _ ?_
    have hP : ∀ p' g, ix3 p co l ∉ (P p' g).1.set := by
      intro p' g hm
      have h1 : 32 * k.val + 8 * g.val ≤ co.val ∧ co.val < 32 * k.val + 8 * g.val + 8 := (Rect.mem_set_unit (inb := hinb _ _)).mp hm 1
      omega
    simp only [List.cons_append, List.nil_append, List.forall_mem_cons, List.not_mem_nil, false_imp_iff, implies_true, and_true, hP, not_false_eq_true]

/-- The stores of a trip into the output block leave the trip's channels at what was stored, the rest as it was. -/
theorem lines_read (m : Memref sig .tc .vmem S1x640x1x2x8x128 .bf16) (f : BufTy.Contents (Elt Ideal) m.view.ty)
    (w : Fin 4 → Fin 4 → Fin 2 → FVec Ideal S1x8x1x1x2x128 .bf16) (G : Fin 640 → Fin 2 → Fin 8 → Fin 128 → EReal)
    (hw : ∀ g q h i (y : Fin 2) l, w g q h (ix6 (0 : Fin 1) i (0 : Fin 1) (0 : Fin 1) y l) = G (chan k g i) h ⟨2 * q.val + y.val, by omega⟩ l)
    (co : Fin 640) (h : Fin 2) (y : Fin 8) (l : Fin 128) :
    m.view.read (Elt Ideal) (m.view.writes (Elt Ideal) f (lines k w)) (ix6 (0 : Fin 1) co (0 : Fin 1) h y l)
      = if 32 * k.val ≤ co.val ∧ co.val < 32 * k.val + 32 then G co h y l else m.view.read (Elt Ideal) f (ix6 (0 : Fin 1) co (0 : Fin 1) h y l) := by
  have hk := trip_lt k
  have hinb : ∀ (g q : Fin 4) (h : Fin 2), ∀ a, (![0, 32 * k.val + 8 * g.val, 0, h.val, 2 * q.val, 0] : Fin 6 → ℕ) a + S1x8x1x1x2x128.size a ≤ S1x640x1x2x8x128.size a := by
    intro g q h a
    match a with
    | ⟨0, _⟩ => show 0 + 1 ≤ 1; omega
    | ⟨1, _⟩ => show 32 * k.val + 8 * g.val + 8 ≤ 640; omega
    | ⟨2, _⟩ => show 0 + 1 ≤ 1; omega
    | ⟨3, _⟩ => show h.val + 1 ≤ 2; omega
    | ⟨4, _⟩ => show 2 * q.val + 2 ≤ 8; omega
    | ⟨5, _⟩ => show 0 + 128 ≤ 128; omega
  let P : Fin 4 → Fin 4 → Fin 2 → View.Piece (Elt Ideal) S1x640x1x2x8x128 .bf16 := fun g q h =>
    ⟨Rect.unit (s := S1x640x1x2x8x128) ![0, 32 * k.val + 8 * g.val, 0, h.val, 2 * q.val, 0] S1x8x1x1x2x128.size (hinb g q h), w g q h⟩
  have hL : lines k w = [P 3 3 1, P 3 3 0, P 3 2 1, P 3 2 0, P 3 1 1, P 3 1 0, P 3 0 1, P 3 0 0, P 2 3 1, P 2 3 0, P 2 2 1, P 2 2 0, P 2 1 1, P 2 1 0, P 2 0 1, P 2 0 0, P 1 3 1, P 1 3 0, P 1 2 1, P 1 2 0, P 1 1 1, P 1 1 0, P 1 0 1, P 1 0 0, P 0 3 1, P 0 3 0, P 0 2 1, P 0 2 0, P 0 1 1, P 0 1 0, P 0 0 1, P 0 0 0] := by
    unfold lines
    refine congrArg₂ List.cons (piece_congr (s := S1x640x1x2x8x128) (e := .bf16) (size := S1x8x1x1x2x128.size) (k0_off42_eq k) _ (hinb 3 3 1) (w 3 3 1)) ?_
    refine congrArg₂ List.cons (piece_congr (s := S1x640x1x2x8x128) (e := .bf16) (size := S1x8x1x1x2x128.size) (k0_off41_eq k) _ (hinb 3 3 0) (w 3 3 0)) ?_
    refine congrArg₂ List.cons (piece_congr (s := S1x640x1x2x8x128) (e := .bf16) (size := S1x8x1x1x2x128.size) (k0_off40_eq k) _ (hinb 3 2 1) (w 3 2 1)) ?_
    refine congrArg₂ List.cons (piece_congr (s := S1x640x1x2x8x128) (e := .bf16) (size := S1x8x1x1x2x128.size) (k0_off39_eq k) _ (hinb 3 2 0) (w 3 2 0)) ?_
    refine congrArg₂ List.cons (piece_congr (s := S1x640x1x2x8x128) (e := .bf16) (size := S1x8x1x1x2x128.size) (k0_off38_eq k) _ (hinb 3 1 1) (w 3 1 1)) ?_
    refine congrArg₂ List.cons (piece_congr (s := S1x640x1x2x8x128) (e := .bf16) (size := S1x8x1x1x2x128.size) (k0_off37_eq k) _ (hinb 3 1 0) (w 3 1 0)) ?_
    refine congrArg₂ List.cons (piece_congr (s := S1x640x1x2x8x128) (e := .bf16) (size := S1x8x1x1x2x128.size) (k0_off36_eq k) _ (hinb 3 0 1) (w 3 0 1)) ?_
    refine congrArg₂ List.cons (piece_congr (s := S1x640x1x2x8x128) (e := .bf16) (size := S1x8x1x1x2x128.size) (k0_off35_eq k) _ (hinb 3 0 0) (w 3 0 0)) ?_
    refine congrArg₂ List.cons (piece_congr (s := S1x640x1x2x8x128) (e := .bf16) (size := S1x8x1x1x2x128.size) (k0_off34_eq k) _ (hinb 2 3 1) (w 2 3 1)) ?_
    refine congrArg₂ List.cons (piece_congr (s := S1x640x1x2x8x128) (e := .bf16) (size := S1x8x1x1x2x128.size) (k0_off33_eq k) _ (hinb 2 3 0) (w 2 3 0)) ?_
    refine congrArg₂ List.cons (piece_congr (s := S1x640x1x2x8x128) (e := .bf16) (size := S1x8x1x1x2x128.size) (k0_off32_eq k) _ (hinb 2 2 1) (w 2 2 1)) ?_
    refine congrArg₂ List.cons (piece_congr (s := S1x640x1x2x8x128) (e := .bf16) (size := S1x8x1x1x2x128.size) (k0_off31_eq k) _ (hinb 2 2 0) (w 2 2 0)) ?_
    refine congrArg₂ List.cons (piece_congr (s := S1x640x1x2x8x128) (e := .bf16) (size := S1x8x1x1x2x128.size) (k0_off30_eq k) _ (hinb 2 1 1) (w 2 1 1)) ?_
    refine congrArg₂ List.cons (piece_congr (s := S1x640x1x2x8x128) (e := .bf16) (size := S1x8x1x1x2x128.size) (k0_off29_eq k) _ (hinb 2 1 0) (w 2 1 0)) ?_
    refine congrArg₂ List.cons (piece_congr (s := S1x640x1x2x8x128) (e := .bf16) (size := S1x8x1x1x2x128.size) (k0_off28_eq k) _ (hinb 2 0 1) (w 2 0 1)) ?_
    refine congrArg₂ List.cons (piece_congr (s := S1x640x1x2x8x128) (e := .bf16) (size := S1x8x1x1x2x128.size) (k0_off27_eq k) _ (hinb 2 0 0) (w 2 0 0)) ?_
    refine congrArg₂ List.cons (piece_congr (s := S1x640x1x2x8x128) (e := .bf16) (size := S1x8x1x1x2x128.size) (k0_off26_eq k) _ (hinb 1 3 1) (w 1 3 1)) ?_
    refine congrArg₂ List.cons (piece_congr (s := S1x640x1x2x8x128) (e := .bf16) (size := S1x8x1x1x2x128.size) (k0_off25_eq k) _ (hinb 1 3 0) (w 1 3 0)) ?_
    refine congrArg₂ List.cons (piece_congr (s := S1x640x1x2x8x128) (e := .bf16) (size := S1x8x1x1x2x128.size) (k0_off24_eq k) _ (hinb 1 2 1) (w 1 2 1)) ?_
    refine congrArg₂ List.cons (piece_congr (s := S1x640x1x2x8x128) (e := .bf16) (size := S1x8x1x1x2x128.size) (k0_off23_eq k) _ (hinb 1 2 0) (w 1 2 0)) ?_
    refine congrArg₂ List.cons (piece_congr (s := S1x640x1x2x8x128) (e := .bf16) (size := S1x8x1x1x2x128.size) (k0_off22_eq k) _ (hinb 1 1 1) (w 1 1 1)) ?_
    refine congrArg₂ List.cons (piece_congr (s := S1x640x1x2x8x128) (e := .bf16) (size := S1x8x1x1x2x128.size) (k0_off21_eq k) _ (hinb 1 1 0) (w 1 1 0)) ?_
    refine congrArg₂ List.cons (piece_congr (s := S1x640x1x2x8x128) (e := .bf16) (size := S1x8x1x1x2x128.size) (k0_off20_eq k) _ (hinb 1 0 1) (w 1 0 1)) ?_
    refine congrArg₂ List.cons (piece_congr (s := S1x640x1x2x8x128) (e := .bf16) (size := S1x8x1x1x2x128.size) (k0_off19_eq k) _ (hinb 1 0 0) (w 1 0 0)) ?_
    refine congrArg₂ List.cons (piece_congr (s := S1x640x1x2x8x128) (e := .bf16) (size := S1x8x1x1x2x128.size) (k0_off18_eq k) _ (hinb 0 3 1) (w 0 3 1)) ?_
    refine congrArg₂ List.cons (piece_congr (s := S1x640x1x2x8x128) (e := .bf16) (size := S1x8x1x1x2x128.size) (k0_off17_eq k) _ (hinb 0 3 0) (w 0 3 0)) ?_
    refine congrArg₂ List.cons (piece_congr (s := S1x640x1x2x8x128) (e := .bf16) (size := S1x8x1x1x2x128.size) (k0_off16_eq k) _ (hinb 0 2 1) (w 0 2 1)) ?_
    refine congrArg₂ List.cons (piece_congr (s := S1x640x1x2x8x128) (e := .bf16) (size := S1x8x1x1x2x128.size) (k0_off15_eq k) _ (hinb 0 2 0) (w 0 2 0)) ?_
    refine congrArg₂ List.cons (piece_congr (s := S1x640x1x2x8x128) (e := .bf16) (size := S1x8x1x1x2x128.size) (k0_off14_eq k) _ (hinb 0 1 1) (w 0 1 1)) ?_
    refine congrArg₂ List.cons (piece_congr (s := S1x640x1x2x8x128) (e := .bf16) (size := S1x8x1x1x2x128.size) (k0_off13_eq k) _ (hinb 0 1 0) (w 0 1 0)) ?_
    refine congrArg₂ List.cons (piece_congr (s := S1x640x1x2x8x128) (e := .bf16) (size := S1x8x1x1x2x128.size) (k0_off12_eq k) _ (hinb 0 0 1) (w 0 0 1)) ?_
    refine congrArg₂ List.cons (piece_congr (s := S1x640x1x2x8x128) (e := .bf16) (size := S1x8x1x1x2x128.size) (k0_off11_eq k) _ (hinb 0 0 0) (w 0 0 0)) ?_
    rfl
  rw [hL]
  split
  case isTrue hc =>
    refine (View.read_writes_apply_of_pieces m.view f (fun y => G (y 1) (y 3) (y 4) (y 5)) _ ?_ (ix6 (0 : Fin 1) co (0 : Fin 1) h y l) ?_).trans rfl
    · have hP : ∀ g q h, ∀ x : (P g q h).1.shape.Idx, (P g q h).2 x = G ((P g q h).1.emb x 1) ((P g q h).1.emb x 3) ((P g q h).1.emb x 4) ((P g q h).1.emb x 5) := by
        intro g q h x
        obtain ⟨i0, i, i2, i3, y, l, rfl⟩ : ∃ (i0 : Fin 1) (i : Fin 8) (i2 i3 : Fin 1) (y : Fin 2) (l : Fin 128), x = ix6 i0 i i2 i3 y l :=
          ⟨x 0, x 1, x 2, x 3, x 4, x 5, eq_ix6 (n0 := 1) (n1 := 8) (n2 := 1) (n3 := 1) (n4 := 2) (n5 := 128) x⟩
        obtain rfl : i0 = 0 := Fin.fin_one_eq_zero i0
        obtain rfl : i2 = 0 := Fin.fin_one_eq_zero i2
        obtain rfl : i3 = 0 := Fin.fin_one_eq_zero i3
        refine (hw g q h i y l).trans ?_
        have e1 : chan k g i = (P g q h).1.emb (ix6 (0 : Fin 1) i (0 : Fin 1) (0 : Fin 1) y l) 1 :=
          Fin.ext (by show 32 * k.val + 8 * g.val + i.val = 32 * k.val + 8 * g.val + 1 * i.val; omega)
        have e3 : h = (P g q h).1.emb (ix6 (0 : Fin 1) i (0 : Fin 1) (0 : Fin 1) y l) 3 := Fin.ext (by show h.val = h.val + 1 * 0; omega)
        have e4 : (⟨2 * q.val + y.val, by omega⟩ : Fin 8) = (P g q h).1.emb (ix6 (0 : Fin 1) i (0 : Fin 1) (0 : Fin 1) y l) 4 :=
          Fin.ext (by show 2 * q.val + y.val = 2 * q.val + 1 * y.val; omega)
        have e5 : l = (P g q h).1.emb (ix6 (0 : Fin 1) i (0 : Fin 1) (0 : Fin 1) y l) 5 := Fin.ext (by show l.val = 0 + 1 * l.val; omega)
        exact congr (congr (congr (congrArg G e1) e3) e4) e5
      simp only [List.forall_mem_cons, List.not_mem_nil, false_imp_iff, implies_true, and_true, hP]
    · refine ⟨P ⟨(co.val - 32 * k.val) / 8, by omega⟩ ⟨y.val / 2, by omega⟩ h, ?_, ?_⟩
      · have : ∀ g q h, P g q h ∈ [P 3 3 1, P 3 3 0, P 3 2 1, P 3 2 0, P 3 1 1, P 3 1 0, P 3 0 1, P 3 0 0, P 2 3 1, P 2 3 0, P 2 2 1, P 2 2 0, P 2 1 1, P 2 1 0, P 2 0 1, P 2 0 0, P 1 3 1, P 1 3 0, P 1 2 1, P 1 2 0, P 1 1 1, P 1 1 0, P 1 0 1, P 1 0 0, P 0 3 1, P 0 3 0, P 0 2 1, P 0 2 0, P 0 1 1, P 0 1 0, P 0 0 1, P 0 0 0] := by
          intro g q h
          fin_cases g <;> fin_cases q <;> fin_cases h <;> simp
        exact this _ _ _
      · refine (Rect.mem_set_unit (inb := hinb _ _ _)).mpr fun a => ?_
        match a with
        | ⟨0, _⟩ => show 0 ≤ 0 ∧ 0 < 0 + 1; omega
        | ⟨1, _⟩ => show 32 * k.val + 8 * ((co.val - 32 * k.val) / 8) ≤ co.val ∧ co.val < 32 * k.val + 8 * ((co.val - 32 * k.val) / 8) + 8; omega
        | ⟨2, _⟩ => show 0 ≤ 0 ∧ 0 < 0 + 1; omega
        | ⟨3, _⟩ => show h.val ≤ h.val ∧ h.val < h.val + 1; omega
        | ⟨4, _⟩ => show 2 * (y.val / 2) ≤ y.val ∧ y.val < 2 * (y.val / 2) + 2; omega
        | ⟨5, _⟩ => show 0 ≤ l.val ∧ l.val < 0 + 128; omega
  case isFalse hc =>
    refine View.read_writes_apply_of_forall_not_mem m.view f _ _ ?_
    have hP : ∀ g q h', ix6 (0 : Fin 1) co (0 : Fin 1) h y l ∉ (P g q h').1.set := by
      intro g q h' hm
      have h1 : 32 * k.val + 8 * g.val ≤ co.val ∧ co.val < 32 * k.val + 8 * g.val + 8 := (Rect.mem_set_unit (inb := hinb _ _ _)).mp hm 1
      omega
    simp only [List.forall_mem_cons, List.not_mem_nil, false_imp_iff, implies_true, and_true, hP, not_false_eq_true]

end Carried

end Cert.KernelIdeal.Hand

end
-- ==== Proof.Loop.lean ====
/-
  The loop over channel blocks on extended reals: after its twenty trips the carried sums are those of the step's last image
  row, and the output block holds the eight lines the step completes.
-/
module

public import proofs.«01_k».proof.Proof.Stores
public import Idealize.ShloMosaic.Lib.MatmulPlain

@[expose] public section

set_option maxRecDepth 65536

noncomputable section

namespace Cert.KernelIdeal.Hand

open Cert.KernelIdeal Cert.KernelIdeal.Gen
open Idealize.ShloMosaic Idealize.ShloMosaic.ValueIdx
open Cert.Up

variable (𝒱 : Variants) (c : Dev nD) (bd : Option 𝒱.V) (i : grid0.Coords) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole) (v23 : IVec S1x128 32) (v27 : IVec S1x128 1) (v29 : IVec S1x128 1) (v86 : FVec Ideal S8x128 .f32) (v96 : FVec Ideal S8x128 .f32) (v153 : FVec Ideal S8x128 .f32) (v163 : FVec Ideal S8x128 .f32) (v220 : FVec Ideal S8x128 .f32) (v230 : FVec Ideal S8x128 .f32) (v277 : FVec Ideal S8x128 .f32) (v287 : FVec Ideal S8x128 .f32) (v289 : IVec S8x128 32) (c0_i32_103 : BitVec 32) (X_arg7 : BufTy.Contents (Elt Ideal) arg7.view.ty) (X_arg8 : BufTy.Contents (Elt Ideal) arg8.view.ty) (X_arg9 : BufTy.Contents (Elt Ideal) arg9.view.ty) (X_arg11 : BufTy.Contents (Elt Ideal) arg11.view.ty) (X_arg12 : BufTy.Contents (Elt Ideal) arg12.view.ty)
variable (K : Conv) (t : ℕ)

/-- What the loop reads and never writes: the weights, channel scales and biases, the two permuted pixel blocks, the pixel
    scales and the lane maps are those of convolution `K` at step `t`. -/
structure Loads : Prop where
  nxt : ∀ l : Fin 128, v23 (ix2 (0 : Fin 1) l) = BitVec.ofNat 32 (right l).val
  even : ∀ l : Fin 128, v27 (ix2 (0 : Fin 1) l) = if l.val % 2 = 0 then 1#1 else 0#1
  first : ∀ l : Fin 128, v29 (ix2 (0 : Fin 1) l) = if l = 0 then 1#1 else 0#1
  wp : ∀ (k : Fin 20) (kh : Fin 3) (d : Fin 2) (i : Fin 32) (c : Fin 512),
    arg7.view.read (Elt Ideal) X_arg7 (ix2 (n0 := 5760) ⟨288 * k.val + 32 * (kh.val + 3 * d.val) + i.val, by omega⟩ c)
      = K.w ⟨32 * k.val + i.val, by omega⟩ c kh d.succ
  wa : ∀ (k : Fin 20) (kh : Fin 3) (i : Fin 32) (c : Fin 512),
    arg7.view.read (Elt Ideal) X_arg7 (ix2 (n0 := 5760) ⟨288 * k.val + 192 + 32 * kh.val + i.val, by omega⟩ c)
      = K.w ⟨32 * k.val + i.val, by omega⟩ c kh 0
  ws : ∀ (co : Fin 640) (l : Fin 128), arg8.view.read (Elt Ideal) X_arg8 (ix2 co l) = K.ws co
  bb : ∀ (co : Fin 640) (l : Fin 128), arg9.view.read (Elt Ideal) X_arg9 (ix2 co l) = K.bias co
  xp : ∀ (c : Fin 512) (q : Fin 4) (l : Fin 128),
    arg11.view.read (Elt Ideal) X_arg11 (ix2 (n1 := 512) c ⟨128 * q.val + l.val, by omega⟩) = K.x c (clip (4 * t + q.val)) (lane l)
  xa : ∀ (c : Fin 512) (q : Fin 4) (l : Fin 128),
    arg12.view.read (Elt Ideal) X_arg12 (ix2 (n1 := 512) c ⟨128 * q.val + l.val, by omega⟩) = K.x c (clip (4 * t + q.val)) (left l)
  sp : ∀ (q : Fin 4) (i : Fin 8) (l : Fin 128),
    (match q with | 0 => v86 | 1 => v153 | 2 => v220 | 3 => v287 : FVec Ideal S8x128 .f32) (ix2 i l) = K.sc (4 * t + q.val) (lane l)
  sa : ∀ (q : Fin 4) (i : Fin 8) (l : Fin 128),
    (match q with | 0 => v96 | 1 => v163 | 2 => v230 | 3 => k0_pay1 v277 v289 c0_i32_103 : FVec Ideal S8x128 .f32) (ix2 i l)
      = K.sc (4 * t + q.val) (left l)

local notation "LD" => Loads arg7 arg8 arg9 arg11 arg12 v23 v27 v29 v86 v96 v153 v163 v220 v230 v277 v287 v289 c0_i32_103 X_arg7 X_arg8 X_arg9 X_arg11 X_arg12 K t

variable (k : Fin k0_t1_loop.trips) (f10 G10 : BufTy.Contents (Elt Ideal) arg10.view.ty) (f13 G13 : BufTy.Contents (Elt Ideal) arg13.view.ty)
  (f14 G14 : BufTy.Contents (Elt Ideal) arg14.view.ty) (f15 G15 : BufTy.Contents (Elt Ideal) arg15.view.ty)

local notation "TT" => tripOf arg7 arg8 arg9 arg11 arg12 arg13 arg14 arg15 v23 v27 v29 v86 v96 v153 v163 v220 v230 v277 v287 v289 c0_i32_103 X_arg7 X_arg8 X_arg9 X_arg11 X_arg12 k f13 f14 f15
local notation "LL" => trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 k
local notation "PB" => pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 G10 G13 G14 G15

/-- A block of one plane read as a matrix. -/
theorem plane_apply {n : ℕ} (m : Memref sig .tc .vmem ⟨3, ![n, 640, 128]⟩ .f32) (f : BufTy.Contents (Elt Ideal) m.view.ty)
    {off : Fin 3 → ℕ} (p : Fin n) (g : Fin 4) (h : off = ![p.val, 32 * k.val + 8 * g.val, 0])
    (inb : ∀ a, off a + S1x8x128.size a ≤ (⟨3, ![n, 640, 128]⟩ : Shape).size a) (i : Fin 8) (l : Fin 128) :
    (shapeCast S8x128 (View.readAt (Elt Ideal) m.view (Rect.unit (s := ⟨3, ![n, 640, 128]⟩) off S1x8x128.size inb).toLoadRect f)
      shapeCasts_S1x8x128_S8x128 : FVec Ideal S8x128 .f32) (ix2 i l) = m.view.read (Elt Ideal) f (ix3 p (chan k g i) l) := by
  refine (shapeCast_1ab_ab_apply (a := 8) (b := 128) _ shapeCasts_S1x8x128_S8x128 i l).trans ?_
  refine readAt_unit_apply (s := ⟨3, ![n, 640, 128]⟩) m f h inb _ _ fun a => ?_
  match a with
  | ⟨0, _⟩ => show p.val = p.val + 0; omega
  | ⟨1, _⟩ => rfl
  | ⟨2, _⟩ => show l.val = 0 + l.val; omega

/-- Rows of a whole matrix read as they stand. -/
theorem rows_apply {M N R : ℕ} {e : EltTy} (m : Memref sig .tc .vmem ⟨2, ![M, N]⟩ e) (f : BufTy.Contents (Elt Ideal) m.view.ty)
    {off : Fin 2 → ℕ} (o : ℕ) (h : off = ![o, 0]) (inb : ∀ a, off a + (⟨2, ![R, N]⟩ : Shape).size a ≤ (⟨2, ![M, N]⟩ : Shape).size a)
    (hc : (⟨2, ![R, N]⟩ : Shape).ShapeCasts ⟨2, ![R, N]⟩) (i : Fin R) (c : Fin N) (r : Fin M) (hr : r.val = o + i.val) :
    shapeCast ⟨2, ![R, N]⟩ (View.readAt (Elt Ideal) m.view (Rect.unit (s := ⟨2, ![M, N]⟩) off (⟨2, ![R, N]⟩ : Shape).size inb).toLoadRect f) hc (ix2 i c)
      = m.view.read (Elt Ideal) f (ix2 r c) := by
  unfold shapeCast
  rw [Shape.reshapeEquiv_self]
  refine readAt_unit_apply (s := ⟨2, ![M, N]⟩) m f h inb _ _ fun a => ?_
  match a with
  | ⟨0, _⟩ => exact hr
  | ⟨1, _⟩ => show c.val = 0 + c.val; omega

include X_arg7 in
/-- The trip's loads are those of the convolution, if the carried sums it finds are. -/
theorem agrees (H : LD)
    (h13 : ∀ m g i l, arg13.view.read (Elt Ideal) f13 (ix3 m (chan k g i) l) = K.N (4 * t) m 0 (chan k g i) l)
    (h14 : ∀ m g i l, arg14.view.read (Elt Ideal) f14 (ix3 m (chan k g i) l) = K.N (4 * t) m 1 (chan k g i) l)
    (h15 : ∀ p g i l, arg15.view.read (Elt Ideal) f15 (ix3 p (chan k g i) l) = K.ev (4 * t) p (chan k g i) l) :
    Agrees (TT) K t (chan k) where
  nxt := H.nxt
  even := H.even
  first := H.first
  zp kh d g q i l := by
    refine (Ideal.matmul_plain_apply (M := 192) (K := 512) (N := 512) _ _ _ _ _ _).trans ?_
    rw [show (constant S192x512 .f32 0x00000000#32 : FVec Ideal S192x512 .f32) (ix2 (n0 := 192) (n1 := 512) ⟨32 * (kh.val + 3 * d.val) + 8 * g.val + i.val, by omega⟩ ⟨128 * q.val + l.val, by omega⟩) = 0 from Ideal.ofBits_zero_f32, zero_add]
    unfold Conv.dot
    refine Finset.sum_congr rfl fun c _ => congrArg₂ (· * ·) ?_ ?_
    · have hk := trip_lt k
      refine (rows_apply (M := 5760) (N := 512) (R := 192) arg7 X_arg7 (288 * k.val) (k0_off2_eq k) _ _ _ c ⟨288 * k.val + 32 * (kh.val + 3 * d.val) + (8 * g.val + i.val), by omega⟩ (by show 288 * k.val + 32 * (kh.val + 3 * d.val) + (8 * g.val + i.val) = 288 * k.val + (32 * (kh.val + 3 * d.val) + 8 * g.val + i.val); omega)).trans ?_
      refine (H.wp ⟨k.val, hk⟩ kh d ⟨8 * g.val + i.val, by omega⟩ c).trans ?_
      congr 1; exact Fin.ext (Nat.add_assoc _ _ _).symm
    · refine (readAt_unit_apply (s := S512x512) arg11 X_arg11 rfl _ _ (ix2 (n0 := 512) (n1 := 512) c ⟨128 * q.val + l.val, by omega⟩) fun a => ?_).trans (H.xp c q l)
      match a with
      | ⟨0, _⟩ => show c.val = 0 + c.val; omega
      | ⟨1, _⟩ => show 128 * q.val + l.val = 0 + (128 * q.val + l.val); omega
  za kh g q i l := by
    refine (Ideal.matmul_plain_apply (M := 96) (K := 512) (N := 512) _ _ _ _ _ _).trans ?_
    rw [show (constant S96x512 .f32 0x00000000#32 : FVec Ideal S96x512 .f32) (ix2 (n0 := 96) (n1 := 512) ⟨32 * kh.val + 8 * g.val + i.val, by omega⟩ ⟨128 * q.val + l.val, by omega⟩) = 0 from Ideal.ofBits_zero_f32, zero_add]
    unfold Conv.dot
    refine Finset.sum_congr rfl fun c _ => congrArg₂ (· * ·) ?_ ?_
    · have hk := trip_lt k
      refine (rows_apply (M := 5760) (N := 512) (R := 96) arg7 X_arg7 (288 * k.val + 192) (k0_off3_eq k) _ _ _ c ⟨288 * k.val + 192 + 32 * kh.val + (8 * g.val + i.val), by omega⟩ (by show 288 * k.val + 192 + 32 * kh.val + (8 * g.val + i.val) = 288 * k.val + 192 + (32 * kh.val + 8 * g.val + i.val); omega)).trans ?_
      refine (H.wa ⟨k.val, hk⟩ kh ⟨8 * g.val + i.val, by omega⟩ c).trans ?_
      congr 1; exact Fin.ext (Nat.add_assoc _ _ _).symm
    · refine (readAt_unit_apply (s := S512x512) arg12 X_arg12 rfl _ _ (ix2 (n0 := 512) (n1 := 512) c ⟨128 * q.val + l.val, by omega⟩) fun a => ?_).trans (H.xa c q l)
      match a with
      | ⟨0, _⟩ => show c.val = 0 + c.val; omega
      | ⟨1, _⟩ => show 128 * q.val + l.val = 0 + (128 * q.val + l.val); omega
  ws g i l := (rows_apply (M := 640) (N := 128) (R := 8) arg8 X_arg8 (32 * k.val + 8 * g.val) (k0_off4_eq k g) _ _ i l (chan k g i) rfl).trans (H.ws _ l)
  bb g i l := (rows_apply (M := 640) (N := 128) (R := 8) arg9 X_arg9 (32 * k.val + 8 * g.val) (k0_off4_eq k g) _ _ i l (chan k g i) rfl).trans (H.bb _ l)
  sp q i l := by
    refine Eq.trans ?_ (H.sp q i l)
    match q with
    | 0 => rfl
    | 1 => rfl
    | 2 => rfl
    | 3 => rfl
  sa q i l := by
    refine Eq.trans ?_ (H.sa q i l)
    match q with
    | 0 => rfl
    | 1 => rfl
    | 2 => rfl
    | 3 => rfl
  c0 m g i l := by
    refine Eq.trans ?_ (h13 m g i l)
    match m with
    | 0 => exact plane_apply k arg13 f13 (0 : Fin 3) g (k0_off5_eq k g) _ i l
    | 1 => exact plane_apply k arg13 f13 (1 : Fin 3) g (k0_off6_eq k g) _ i l
    | 2 => exact plane_apply k arg13 f13 (2 : Fin 3) g (k0_off7_eq k g) _ i l
  c1 m g i l := by
    refine Eq.trans ?_ (h14 m g i l)
    match m with
    | 0 => exact plane_apply k arg14 f14 (0 : Fin 3) g (k0_off5_eq k g) _ i l
    | 1 => exact plane_apply k arg14 f14 (1 : Fin 3) g (k0_off6_eq k g) _ i l
    | 2 => exact plane_apply k arg14 f14 (2 : Fin 3) g (k0_off7_eq k g) _ i l
  e p g i l := by
    refine Eq.trans ?_ (h15 p g i l)
    match p with
    | 0 => exact plane_apply k arg15 f15 (0 : Fin 2) g (k0_off8_eq k g) _ i l
    | 1 => exact plane_apply k arg15 f15 (1 : Fin 2) g (k0_off9_eq k g) _ i l

/-- After `n` trips the first `32 n` channels are done and the others untouched. -/
theorem loop_value (H : LD)
    (h13 : ∀ m co l, arg13.view.read (Elt Ideal) G13 (ix3 m co l) = K.N (4 * t) m 0 co l)
    (h14 : ∀ m co l, arg14.view.read (Elt Ideal) G14 (ix3 m co l) = K.N (4 * t) m 1 co l)
    (h15 : ∀ p co l, arg15.view.read (Elt Ideal) G15 (ix3 p co l) = K.ev (4 * t) p co l) (n : ℕ) (hn : n ≤ 20) :
    (∀ m co l, arg13.view.read (Elt Ideal) (arg13.view.writes (Elt Ideal) G13 (PB n).2.1) (ix3 m co l)
        = if co.val < 32 * n then K.N (4 * (t + 1)) m 0 co l else K.N (4 * t) m 0 co l)
    ∧ (∀ m co l, arg14.view.read (Elt Ideal) (arg14.view.writes (Elt Ideal) G14 (PB n).2.2.1) (ix3 m co l)
        = if co.val < 32 * n then K.N (4 * (t + 1)) m 1 co l else K.N (4 * t) m 1 co l)
    ∧ (∀ p co l, arg15.view.read (Elt Ideal) (arg15.view.writes (Elt Ideal) G15 (PB n).2.2.2) (ix3 p co l)
        = if co.val < 32 * n then K.ev (4 * (t + 1)) p co l else K.ev (4 * t) p co l)
    ∧ (∀ co h y l, co.val < 32 * n → arg10.view.read (Elt Ideal) (arg10.view.writes (Elt Ideal) G10 (PB n).1)
        (ix6 (0 : Fin 1) co (0 : Fin 1) h y l) = K.block t co h y l) := by
  induction n with
  | zero =>
    refine ⟨fun m co l => ?_, fun m co l => ?_, fun m co l => ?_, fun co h y l hc => absurd hc (by omega)⟩
    · rw [if_neg (by omega)]; exact h13 m co l
    · rw [if_neg (by omega)]; exact h14 m co l
    · rw [if_neg (by omega)]; exact h15 m co l
  | succ n ih =>
    obtain ⟨i13, i14, i15, i10⟩ := ih (by omega)
    obtain ⟨k, rfl⟩ : ∃ k : Fin k0_t1_loop.trips, k.val = n := ⟨⟨n, by rw [trips_eq]; omega⟩, rfl⟩
    have hge : ∀ g i, ¬ (chan k g i).val < 32 * k.val := fun g i => by
      show ¬ 32 * k.val + 8 * g.val + i.val < 32 * k.val; omega
    have A := agrees arg7 arg8 arg9 arg11 arg12 arg13 arg14 arg15 v23 v27 v29 v86 v96 v153 v163 v220 v230 v277 v287 v289 c0_i32_103
      X_arg7 X_arg8 X_arg9 X_arg11 X_arg12 K t k (arg13.view.writes (Elt Ideal) G13 (PB k.val).2.1)
      (arg14.view.writes (Elt Ideal) G14 (PB k.val).2.2.1) (arg15.view.writes (Elt Ideal) G15 (PB k.val).2.2.2) H
      (fun m g i l => (i13 m _ l).trans (if_neg (hge g i))) (fun m g i l => (i14 m _ l).trans (if_neg (hge g i)))
      (fun p g i l => (i15 p _ l).trans (if_neg (hge g i)))
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 G10 G13 G14 G15 k
    rw [show (PB (k.val + 1)) = _ from hs]
    refine ⟨fun m co l => ?_, fun m co l => ?_, fun m co l => ?_, fun co h y l hc => ?_⟩
    · show arg13.view.read (Elt Ideal) (arg13.view.writes (Elt Ideal) G13 (_ ++ (PB k.val).2.1)) _ = _
      rw [View.writes_append]
      refine (congrArg (fun L => arg13.view.read (Elt Ideal) (arg13.view.writes (Elt Ideal) (arg13.view.writes (Elt Ideal) G13 (PB k.val).2.1) L) (ix3 m co l))
        (stores13 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 k (arg10.view.writes (Elt Ideal) G10 (PB k.val).1) (arg13.view.writes (Elt Ideal) G13 (PB k.val).2.1) (arg14.view.writes (Elt Ideal) G14 (PB k.val).2.2.1) (arg15.view.writes (Elt Ideal) G15 (PB k.val).2.2.2))).trans ?_
      rw [carried_read k arg13 _ _ (fun m co l => K.N (4 * (t + 1)) m 0 co l) (fun m g i l => A.c0' m g i l)]
      rw [i13]
      split_ifs <;> first | rfl | omega
    · show arg14.view.read (Elt Ideal) (arg14.view.writes (Elt Ideal) G14 (_ ++ (PB k.val).2.2.1)) _ = _
      rw [View.writes_append]
      refine (congrArg (fun L => arg14.view.read (Elt Ideal) (arg14.view.writes (Elt Ideal) (arg14.view.writes (Elt Ideal) G14 (PB k.val).2.2.1) L) (ix3 m co l))
        (stores14 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 k (arg10.view.writes (Elt Ideal) G10 (PB k.val).1) (arg13.view.writes (Elt Ideal) G13 (PB k.val).2.1) (arg14.view.writes (Elt Ideal) G14 (PB k.val).2.2.1) (arg15.view.writes (Elt Ideal) G15 (PB k.val).2.2.2))).trans ?_
      rw [carried_read k arg14 _ _ (fun m co l => K.N (4 * (t + 1)) m 1 co l) (fun m g i l => A.c1' m g i l)]
      rw [i14]
      split_ifs <;> first | rfl | omega
    · show arg15.view.read (Elt Ideal) (arg15.view.writes (Elt Ideal) G15 (_ ++ (PB k.val).2.2.2)) _ = _
      rw [View.writes_append]
      refine (congrArg (fun L => arg15.view.read (Elt Ideal) (arg15.view.writes (Elt Ideal) (arg15.view.writes (Elt Ideal) G15 (PB k.val).2.2.2) L) (ix3 m co l))
        (stores15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 k (arg10.view.writes (Elt Ideal) G10 (PB k.val).1) (arg13.view.writes (Elt Ideal) G13 (PB k.val).2.1) (arg14.view.writes (Elt Ideal) G14 (PB k.val).2.2.1) (arg15.view.writes (Elt Ideal) G15 (PB k.val).2.2.2))).trans ?_
      rw [carriedLine_read k arg15 _ _ (fun m co l => K.ev (4 * (t + 1)) m co l) (fun m g i l => A.e' m g i l)]
      rw [i15]
      split_ifs <;> first | rfl | omega
    · show arg10.view.read (Elt Ideal) (arg10.view.writes (Elt Ideal) G10 (_ ++ (PB k.val).1)) _ = _
      rw [View.writes_append]
      refine (congrArg (fun L => arg10.view.read (Elt Ideal) (arg10.view.writes (Elt Ideal) (arg10.view.writes (Elt Ideal) G10 (PB k.val).1) L) (ix6 (0 : Fin 1) co (0 : Fin 1) h y l))
        (stores10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 k (arg10.view.writes (Elt Ideal) G10 (PB k.val).1) (arg13.view.writes (Elt Ideal) G13 (PB k.val).2.1) (arg14.view.writes (Elt Ideal) G14 (PB k.val).2.2.1) (arg15.view.writes (Elt Ideal) G15 (PB k.val).2.2.2))).trans ?_
      rw [lines_read k arg10 _ _ (fun co h y l => K.block t co h y l) (fun g q h i y l => A.word g q h i y l)]
      split_ifs with hcc
      · rfl
      · exact i10 co h y l (by omega)

end Cert.KernelIdeal.Hand

end
-- ==== Proof.Head.lean ====
/-
  What the body computes before its loop, on extended reals: the lane maps as numbers, the permuted pixel blocks, the permuted
  pixel scales, the zero fills; together, that the loop reads the convolution of the step.
-/
module

public import proofs.«01_k».proof.Proof.Loop

@[expose] public section

set_option maxRecDepth 65536

noncomputable section

namespace Cert.KernelIdeal.Hand

open Cert.KernelIdeal Cert.KernelIdeal.Gen
open Idealize.ShloMosaic Idealize.ShloMosaic.ValueIdx
open Cert.Up

/-! ## The lane maps -/

/-- The lane each output lane's pixel lies in. -/
theorem pay579_apply (l : Fin 128) : k0_pay579 (ix2 (0 : Fin 1) l) = BitVec.ofNat 32 (lane l).val := by
  show IntOp.addi (IntOp.shrsi .vector (BitVec.ofNat 32 (0 * 128 + l.val)) 1#32) (IntOp.muli (IntOp.andi (BitVec.ofNat 32 (0 * 128 + l.val)) 1#32) 64#32) = _
  revert l; decide

/-- The lane of the pixel to the left. -/
theorem pay580_apply (l : Fin 128) : k0_pay580 (ix2 (0 : Fin 1) l) = BitVec.ofNat 32 (left l).val := by
  show IntOp.andi (IntOp.subi (k0_pay579 (ix2 (0 : Fin 1) l)) 1#32) 127#32 = _
  rw [pay579_apply]; revert l; decide

/-- The lane of the pixel to the right. -/
theorem pay581_apply (l : Fin 128) : k0_pay581 (ix2 (0 : Fin 1) l) = BitVec.ofNat 32 (right l).val := by
  show IntOp.addi (IntOp.muli (IntOp.andi (IntOp.andi (IntOp.addi (k0_pay579 (ix2 (0 : Fin 1) l)) 1#32) 127#32) 63#32) 2#32)
    ((IntOp.cmpi .sge (IntOp.andi (IntOp.addi (k0_pay579 (ix2 (0 : Fin 1) l)) 1#32) 127#32) 64#32).setWidth 32) = _
  rw [pay579_apply]; revert l; decide

/-- Whether a lane is even. -/
theorem pay582_apply (l : Fin 128) : k0_pay582 (ix2 (0 : Fin 1) l) = if l.val % 2 = 0 then 1#1 else 0#1 := by
  show IntOp.cmpi .eq (IntOp.andi (BitVec.ofNat 32 (0 * 128 + l.val)) 1#32) 0#32 = _
  revert l; decide

/-- Whether a lane is the first. -/
theorem pay583_apply (l : Fin 128) : k0_pay583 (ix2 (0 : Fin 1) l) = if l = 0 then 1#1 else 0#1 := by
  show IntOp.cmpi .eq (BitVec.ofNat 32 (0 * 128 + l.val)) 0#32 = _
  revert l; decide

/-! ## Pixel blocks with their lanes permuted -/

/-- The index matrix of a lane map over the 512 input channels. -/
def gatherIdx512 (v : IVec S1x128 32) : IVec S512x128 32 :=
  let b : IVec S512x128 32 := broadcastTo S512x128 (shapeCast S1x128 v shapeCasts_S1x128_S1x128) broadcasts_S1x128_S512x128
  shapeCast S512x128 (shapeCast S512x128x1 (select (cmpi .slt b (broadcast S512x128 0#32)) (addi b (broadcast S512x128 128#32)) b)
    shapeCasts_S512x128_S512x128x1) shapeCasts_S512x128x1_S512x128

/-- A pixel block with its lanes permuted by a lane map. -/
def permuted (v : IVec S1x128 32) (x : Vec Ideal S1x1x512x128 .fp8e4m3) : FVec Ideal S512x128 .fp8e4m3 :=
  shapeCast S512x128 (truncf .fp8e4m3 (dynamicGather 1
    (extf .f32 (shapeCast S512x128 x shapeCasts_S1x1x512x128_S512x128 : FVec Ideal S512x128 .fp8e4m3) bitsLt_fp8e4m3_f32)
    (gatherIdx512 v)) bitsLt_fp8e4m3_f32) shapeCasts_S512x128_S512x128

/-- The gather's lane numbers, read at an element. -/
theorem gatherIdx512_apply (v : IVec S1x128 32) (l r : Fin 128) (i : Fin 512) (hv : v (ix2 (0 : Fin 1) l) = BitVec.ofNat 32 r.val) :
    gatherIdx512 v (ix2 i l) = BitVec.ofNat 32 r.val := by
  have hb : (broadcastTo S512x128 (shapeCast S1x128 v shapeCasts_S1x128_S1x128) broadcasts_S1x128_S512x128 : IVec S512x128 32) (ix2 i l)
      = BitVec.ofNat 32 r.val := by
    refine (broadcastTo_1b_ab_apply (a := 512) (b := 128) _ broadcasts_S1x128_S512x128 i l).trans (Eq.trans ?_ hv)
    unfold shapeCast
    rw [Shape.reshapeEquiv_self]
  unfold gatherIdx512
  generalize (broadcastTo S512x128 (shapeCast S1x128 v shapeCasts_S1x128_S1x128) broadcasts_S1x128_S512x128 : IVec S512x128 32) = b at hb
  unfold shapeCast
  rw [Shape.reshapeEquiv_reshapeEquiv, Shape.reshapeEquiv_self]
  show Scalar.select (IntOp.cmpi .slt (b (ix2 i l)) 0#32) (b (ix2 i l) + 128#32) (b (ix2 i l)) = _
  rw [hb]
  clear hb hv; revert r; decide

/-- The lane gather of a block of codes, read at an element. -/
theorem gather512_apply {α : Type} (y : S512x128.Idx → α) (v : IVec S1x128 32) (l r : Fin 128) (i : Fin 512)
    (hv : v (ix2 (0 : Fin 1) l) = BitVec.ofNat 32 r.val) :
    dynamicGather (s := S512x128) 1 y (gatherIdx512 v) (ix2 i l) = y (ix2 i r) := by
  refine congrArg y (funext fun b => ?_)
  match b with
  | ⟨0, _⟩ => rfl
  | ⟨1, _⟩ =>
    refine Fin.ext ?_
    show (gatherIdx512 v (ix2 i l)).toNat % 128 = r.val
    rw [gatherIdx512_apply v l r i hv]
    have := r.isLt
    simp only [BitVec.toNat_ofNat]; omega

/-- A gathered block of codes, read at an element. -/
theorem permuted_apply (v : IVec S1x128 32) (x : Vec Ideal S1x1x512x128 .fp8e4m3) (l r : Fin 128) (i : Fin 512)
    (hv : v (ix2 (0 : Fin 1) l) = BitVec.ofNat 32 r.val) : permuted v x (ix2 i l) = x (ix4 (0 : Fin 1) (0 : Fin 1) i r) := by
  unfold permuted
  have hs : ∀ (y : FVec Ideal S512x128 .fp8e4m3) (j : S512x128.Idx), shapeCast S512x128 y shapeCasts_S512x128_S512x128 j = y j := by
    intro y j; unfold shapeCast; rw [Shape.reshapeEquiv_self]
  rw [hs]
  refine (gather512_apply (α := EReal) (fun j => shapeCast S512x128 x shapeCasts_S1x1x512x128_S512x128 j) v l r i hv).trans ?_
  exact shapeCast_apply x shapeCasts_S1x1x512x128_S512x128 (ix2 i r) (ix4 (0 : Fin 1) (0 : Fin 1) i r)
    (by rw [Shape.rowMajor_val_two, Shape.rowMajor_val_four]; show ((0 * 1 + 0) * 512 + i.val) * 128 + r.val = i.val * 128 + r.val; omega)

/-- A block stored at lane `o`, read inside it. -/
theorem quarter_hit (m : Memref sig .tc .vmem S512x512 .fp8e4m3) (f : BufTy.Contents (Elt Ideal) m.view.ty) (o : ℕ)
    (inb : ∀ a, (![0, o] : Fin 2 → ℕ) a + S512x128.size a ≤ S512x512.size a) (p : FVec Ideal S512x128 .fp8e4m3)
    (L : List (View.Piece (Elt Ideal) S512x512 .fp8e4m3)) (c : Fin 512) (l : Fin 128) (y : Fin 512) (hy : y.val = o + l.val) :
    m.view.read (Elt Ideal) (m.view.writes (Elt Ideal) f (⟨Rect.unit (s := S512x512) ![0, o] S512x128.size inb, p⟩ :: L)) (ix2 c y) = p (ix2 c l) :=
  View.read_writes_cons_unit_of_mem (s := S512x512) (off := ![0, o]) (size := S512x128.size) m.view f inb p L (ix2 c y) (ix2 c l) rfl (fun a => by
    match a with
    | ⟨0, _⟩ => show c.val = 0 + c.val; omega
    | ⟨1, _⟩ => exact hy)

/-- A block stored at lane `o`, read before it. -/
theorem quarter_miss (m : Memref sig .tc .vmem S512x512 .fp8e4m3) (f : BufTy.Contents (Elt Ideal) m.view.ty) (o : ℕ)
    (inb : ∀ a, (![0, o] : Fin 2 → ℕ) a + S512x128.size a ≤ S512x512.size a) (p : FVec Ideal S512x128 .fp8e4m3)
    (L : List (View.Piece (Elt Ideal) S512x512 .fp8e4m3)) (c : Fin 512) (y : Fin 512) (hy : y.val < o) :
    m.view.read (Elt Ideal) (m.view.writes (Elt Ideal) f (⟨Rect.unit (s := S512x512) ![0, o] S512x128.size inb, p⟩ :: L)) (ix2 c y)
      = m.view.read (Elt Ideal) (m.view.writes (Elt Ideal) f L) (ix2 c y) :=
  View.read_writes_cons_unit_of_not_mem (s := S512x512) (off := ![0, o]) (size := S512x128.size) m.view f inb p L (ix2 c y) rfl 1 (Or.inl hy)

/-- Four blocks laid side by side, read at a lane of one of them. -/
theorem quarters_read (m : Memref sig .tc .vmem S512x512 .fp8e4m3) (f : BufTy.Contents (Elt Ideal) m.view.ty)
    (p : Fin 4 → FVec Ideal S512x128 .fp8e4m3) (c : Fin 512) (q : Fin 4) (l : Fin 128) :
    m.view.read (Elt Ideal) (m.view.writes (Elt Ideal) f
      [⟨Rect.unit ![0, 384] S512x128.size inb_S512x512_S512x128_0_384, p 3⟩,
       ⟨Rect.unit ![0, 256] S512x128.size inb_S512x512_S512x128_0_256, p 2⟩,
       ⟨Rect.unit ![0, 128] S512x128.size inb_S512x512_S512x128_0_128, p 1⟩,
       ⟨Rect.unit ![0, 0] S512x128.size inb_S512x512_S512x128_0_0, p 0⟩]) (ix2 (n1 := 512) c ⟨128 * q.val + l.val, by omega⟩) = p q (ix2 c l) := by
  have hl := l.isLt
  match q with
  | 3 => exact quarter_hit m f 384 _ _ _ c l _ rfl
  | 2 =>
    refine (quarter_miss m f 384 _ _ _ c ⟨128 * 2 + l.val, by omega⟩ (by show 128 * 2 + l.val < 384; omega)).trans ?_
    exact quarter_hit m f 256 _ _ _ c l _ rfl
  | 1 =>
    refine (quarter_miss m f 384 _ _ _ c ⟨128 * 1 + l.val, by omega⟩ (by show 128 * 1 + l.val < 384; omega)).trans ?_
    refine (quarter_miss m f 256 _ _ _ c ⟨128 * 1 + l.val, by omega⟩ (by show 128 * 1 + l.val < 256; omega)).trans ?_
    exact quarter_hit m f 128 _ _ _ c l _ rfl
  | 0 =>
    refine (quarter_miss m f 384 _ _ _ c ⟨128 * 0 + l.val, by omega⟩ (by show 128 * 0 + l.val < 384; omega)).trans ?_
    refine (quarter_miss m f 256 _ _ _ c ⟨128 * 0 + l.val, by omega⟩ (by show 128 * 0 + l.val < 256; omega)).trans ?_
    refine (quarter_miss m f 128 _ _ _ c ⟨128 * 0 + l.val, by omega⟩ (by show 128 * 0 + l.val < 128; omega)).trans ?_
    exact quarter_hit m f 0 _ _ _ c l _ rfl

/-! ## Pixel scales -/

/-- Whether row `q` of step `a` is a row of the image. -/
def okBit (a q : BitVec 32) : BitVec 1 :=
  Scalar.andi (Scalar.cmpi .sge (Scalar.addi (Scalar.addi (Scalar.muli 4#32 (Scalar.subi a 1#32)) 1#32) q) 0#32)
    (Scalar.cmpi .slt (Scalar.addi (Scalar.addi (Scalar.muli 4#32 (Scalar.subi a 1#32)) 1#32) q) 192#32)

/-- The bit that says whether a row of codes lies in the image. -/
theorem okBit_eq (t : Fin 49) (q : Fin 4) :
    okBit (BitVec.ofNat 32 t.val) (BitVec.ofNat 32 q.val) = if 3 ≤ 4 * t.val + q.val ∧ 4 * t.val + q.val < 195 then 1#1 else 0#1 := by
  revert t q; decide

/-- The row of scales that the body loads. -/
theorem off1_eq (i : grid0.Coords) (q : Fin 4) :
    k0_off1 i (BitVec.ofNat 32 q.val) = ![0, (clip (4 * (i 1).val + q.val)).val, 0] := by
  have h : ∀ (t : Fin 49) (q : Fin 4), (Scalar.indexCast (Scalar.minsi 191#32 (Scalar.maxsi 0#32
      (Scalar.addi (Scalar.addi (Scalar.muli 4#32 (Scalar.subi (BitVec.ofNat 32 t.val) 1#32)) 1#32) (BitVec.ofNat 32 q.val)))) : Index).toNat
      = (clip (4 * t.val + q.val)).val := by decide
  have := h (i 1) q
  unfold k0_off1
  dsimp only
  rw [← this]

/-- A row of scales, zero outside the image. -/
theorem pay604_apply (ok : BitVec 1) (v : Vec Ideal S1x1x128 .f32) (i : Fin 8) (l : Fin 128) :
    k0_pay604 (F := Ideal) ok v (ix2 i l) = if ok = 1#1 then v (ix3 (0 : Fin 1) (0 : Fin 1) l) else 0 := by
  unfold k0_pay604
  refine (broadcastTo_1b_ab_apply (a := 8) (b := 128) _ broadcasts_S1x128_S8x128 i l).trans ?_
  have hs : ∀ (y : FVec Ideal S1x128 .f32) (j : S1x128.Idx), shapeCast S1x128 y shapeCasts_S1x128_S1x128 j = y j := by
    intro y j; unfold shapeCast; rw [Shape.reshapeEquiv_self]
  rw [hs]
  unfold Scalar.select
  split
  · rename_i h; rw [if_pos (show ok = 1#1 from h)]; exact shapeCast_1ab_ab_apply (a := 1) (b := 128) v shapeCasts_S1x1x128_S1x128 0 l
  · rename_i h; rw [if_neg (show ¬ ok = 1#1 from h)]; exact Ideal.ofBits_zero_f32

/-- A row of scales with its lanes permuted by a lane map. -/
theorem scale_apply (K : Conv) (i : grid0.Coords) (q : Fin 4) (arg6 : Memref sig .tc .vmem S1x192x128 .f32) (f6 : BufTy.Contents (Elt Ideal) arg6.view.ty)
    (h6 : ∀ r l, arg6.view.read (Elt Ideal) f6 (ix3 (0 : Fin 1) r l) = K.s r l)
    (inb : ∀ a, (k0_off1 i (BitVec.ofNat 32 q.val)) a + S1x1x128.size a ≤ S1x192x128.size a)
    (v : IVec S1x128 32) (l r : Fin 128) (j : Fin 8) (hv : v (ix2 (0 : Fin 1) l) = BitVec.ofNat 32 r.val) :
    dynamicGather (s := S8x128) 1 (k0_pay604 (F := Ideal) (okBit (BitVec.ofNat 32 (i 1).val) (BitVec.ofNat 32 q.val))
      (View.readAt (Elt Ideal) arg6.view (Rect.unit (s := S1x192x128) (k0_off1 i (BitVec.ofNat 32 q.val)) S1x1x128.size inb).toLoadRect f6)) (gatherIdx v) (ix2 j l)
      = K.sc (4 * (i 1).val + q.val) r := by
  rw [gather_apply _ v l r j hv, pay604_apply, show (i 1).val = (⟨(i 1).val, (i 1).isLt⟩ : Fin 49).val from rfl, okBit_eq]
  unfold Conv.sc
  dsimp only
  by_cases h : 3 ≤ 4 * (i 1).val + q.val ∧ 4 * (i 1).val + q.val < 195
  · rw [if_pos h, if_pos h, if_pos rfl, ← h6]
    refine readAt_unit_apply (s := S1x192x128) arg6 f6 (off1_eq i q) inb _ _ fun a => ?_
    match a with
    | ⟨0, _⟩ => rfl
    | ⟨1, _⟩ => rfl
    | ⟨2, _⟩ => show r.val = 0 + r.val; omega
  · rw [if_neg h, if_neg h, if_neg (by decide)]

/-! ## All the loop reads -/

/-- A pixel block as it is loaded. -/
def block2 (m : Memref sig .tc .vmem S1x1x512x128 .fp8e4m3) (f : BufTy.Contents (Elt Ideal) m.view.ty) : Vec Ideal S1x1x512x128 .fp8e4m3 :=
  View.readAt (Elt Ideal) m.view (Rect.unit (s := S1x1x512x128) ![0, 0, 0, 0] S1x1x512x128.size inb_S1x1x512x128_S1x1x512x128_0_0_0_0).toLoadRect f

/-- A loaded block of codes, read at an element. -/
theorem block2_apply (m : Memref sig .tc .vmem S1x1x512x128 .fp8e4m3) (f : BufTy.Contents (Elt Ideal) m.view.ty) (c : Fin 512) (l : Fin 128) :
    block2 m f (ix4 (0 : Fin 1) (0 : Fin 1) c l) = m.view.read (Elt Ideal) f (ix4 (0 : Fin 1) (0 : Fin 1) c l) :=
  readAt_unit_apply (s := S1x1x512x128) m f rfl _ _ _ fun a => by
    match a with
    | ⟨0, _⟩ => rfl
    | ⟨1, _⟩ => rfl
    | ⟨2, _⟩ => show c.val = 0 + c.val; omega
    | ⟨3, _⟩ => show l.val = 0 + l.val; omega

/-- The four loaded blocks stored side by side with their lanes permuted. -/
def quarters (v : IVec S1x128 32) (x0 x1 x2 x3 : Vec Ideal S1x1x512x128 .fp8e4m3) : List (View.Piece (Elt Ideal) S512x512 .fp8e4m3) :=
  [⟨Rect.unit ![0, 384] S512x128.size inb_S512x512_S512x128_0_384, permuted v x3⟩,
   ⟨Rect.unit ![0, 256] S512x128.size inb_S512x512_S512x128_0_256, permuted v x2⟩,
   ⟨Rect.unit ![0, 128] S512x128.size inb_S512x512_S512x128_0_128, permuted v x1⟩,
   ⟨Rect.unit ![0, 0] S512x128.size inb_S512x512_S512x128_0_0, permuted v x0⟩]

/-- A row of scales as the body permutes it. -/
def scales (v : IVec S1x128 32) (i : grid0.Coords) (q : BitVec 32) (x : Vec Ideal S1x1x128 .f32) : FVec Ideal S8x128 .f32 :=
  dynamicGather (s := S8x128) 1 (k0_pay604 (F := Ideal) (okBit (BitVec.ofNat 32 (i 1).val) q) x) (gatherIdx v)

/-- What the body computes before the loop is what the loop is to find. -/
theorem loads (K : Conv) (i : grid0.Coords) (arg2 arg3 arg4 arg5 : Memref sig .tc .vmem S1x1x512x128 .fp8e4m3)
    (arg6 : Memref sig .tc .vmem S1x192x128 .f32) (arg7 : Memref sig .tc .vmem S5760x512 .fp8e4m3)
    (arg8 arg9 : Memref sig .tc .vmem S640x128 .f32) (arg11 arg12 : Memref sig .tc .vmem S512x512 .fp8e4m3)
    (f2 : BufTy.Contents (Elt Ideal) arg2.view.ty) (f3 : BufTy.Contents (Elt Ideal) arg3.view.ty)
    (f4 : BufTy.Contents (Elt Ideal) arg4.view.ty) (f5 : BufTy.Contents (Elt Ideal) arg5.view.ty)
    (f6 : BufTy.Contents (Elt Ideal) arg6.view.ty) (f7 : BufTy.Contents (Elt Ideal) arg7.view.ty)
    (f8 : BufTy.Contents (Elt Ideal) arg8.view.ty) (f9 : BufTy.Contents (Elt Ideal) arg9.view.ty)
    (f11 : BufTy.Contents (Elt Ideal) arg11.view.ty) (f12 : BufTy.Contents (Elt Ideal) arg12.view.ty)
    (h2 : ∀ c l, arg2.view.read (Elt Ideal) f2 (ix4 (0 : Fin 1) (0 : Fin 1) c l) = K.x c (clip (4 * (i 1).val + 0)) l)
    (h3 : ∀ c l, arg3.view.read (Elt Ideal) f3 (ix4 (0 : Fin 1) (0 : Fin 1) c l) = K.x c (clip (4 * (i 1).val + 1)) l)
    (h4 : ∀ c l, arg4.view.read (Elt Ideal) f4 (ix4 (0 : Fin 1) (0 : Fin 1) c l) = K.x c (clip (4 * (i 1).val + 2)) l)
    (h5 : ∀ c l, arg5.view.read (Elt Ideal) f5 (ix4 (0 : Fin 1) (0 : Fin 1) c l) = K.x c (clip (4 * (i 1).val + 3)) l)
    (h6 : ∀ r l, arg6.view.read (Elt Ideal) f6 (ix3 (0 : Fin 1) r l) = K.s r l)
    (h7 : ∀ (k : Fin 20) (kh : Fin 3) (d : Fin 2) (i : Fin 32) (c : Fin 512),
      arg7.view.read (Elt Ideal) f7 (ix2 (n0 := 5760) ⟨288 * k.val + 32 * (kh.val + 3 * d.val) + i.val, by omega⟩ c)
        = K.w ⟨32 * k.val + i.val, by omega⟩ c kh d.succ)
    (h7' : ∀ (k : Fin 20) (kh : Fin 3) (i : Fin 32) (c : Fin 512),
      arg7.view.read (Elt Ideal) f7 (ix2 (n0 := 5760) ⟨288 * k.val + 192 + 32 * kh.val + i.val, by omega⟩ c)
        = K.w ⟨32 * k.val + i.val, by omega⟩ c kh 0)
    (h8 : ∀ co l, arg8.view.read (Elt Ideal) f8 (ix2 co l) = K.ws co)
    (h9 : ∀ co l, arg9.view.read (Elt Ideal) f9 (ix2 co l) = K.bias co)
    (i0 : ∀ a, (k0_off1 i 0#32) a + S1x1x128.size a ≤ S1x192x128.size a) (i1 : ∀ a, (k0_off1 i 1#32) a + S1x1x128.size a ≤ S1x192x128.size a)
    (i2 : ∀ a, (k0_off1 i 2#32) a + S1x1x128.size a ≤ S1x192x128.size a) (i3 : ∀ a, (k0_off1 i 3#32) a + S1x1x128.size a ≤ S1x192x128.size a)
    (v23 : IVec S1x128 32) (v27 v29 : IVec S1x128 1) (v86 v96 v153 v163 v220 v230 v277 v287 : FVec Ideal S8x128 .f32) (v289 : IVec S8x128 32) (z : BitVec 32)
    (e23 : v23 = k0_pay581) (e27 : v27 = k0_pay582) (e29 : v29 = k0_pay583)
    (e86 : v86 = scales k0_pay579 i 0#32 (View.readAt (Elt Ideal) arg6.view (Rect.unit (s := S1x192x128) (k0_off1 i 0#32) S1x1x128.size i0).toLoadRect f6))
    (e96 : v96 = scales k0_pay580 i 0#32 (View.readAt (Elt Ideal) arg6.view (Rect.unit (s := S1x192x128) (k0_off1 i 0#32) S1x1x128.size i0).toLoadRect f6))
    (e153 : v153 = scales k0_pay579 i 1#32 (View.readAt (Elt Ideal) arg6.view (Rect.unit (s := S1x192x128) (k0_off1 i 1#32) S1x1x128.size i1).toLoadRect f6))
    (e163 : v163 = scales k0_pay580 i 1#32 (View.readAt (Elt Ideal) arg6.view (Rect.unit (s := S1x192x128) (k0_off1 i 1#32) S1x1x128.size i1).toLoadRect f6))
    (e220 : v220 = scales k0_pay579 i 2#32 (View.readAt (Elt Ideal) arg6.view (Rect.unit (s := S1x192x128) (k0_off1 i 2#32) S1x1x128.size i2).toLoadRect f6))
    (e230 : v230 = scales k0_pay580 i 2#32 (View.readAt (Elt Ideal) arg6.view (Rect.unit (s := S1x192x128) (k0_off1 i 2#32) S1x1x128.size i2).toLoadRect f6))
    (e287 : v287 = scales k0_pay579 i 3#32 (View.readAt (Elt Ideal) arg6.view (Rect.unit (s := S1x192x128) (k0_off1 i 3#32) S1x1x128.size i3).toLoadRect f6))
    (e297 : k0_pay1 v277 v289 z = scales k0_pay580 i 3#32 (View.readAt (Elt Ideal) arg6.view (Rect.unit (s := S1x192x128) (k0_off1 i 3#32) S1x1x128.size i3).toLoadRect f6))
    (g11 : BufTy.Contents (Elt Ideal) arg11.view.ty) (g12 : BufTy.Contents (Elt Ideal) arg12.view.ty)
    (e11 : f11 = arg11.view.writes (Elt Ideal) g11 (quarters k0_pay579 (block2 arg2 f2) (block2 arg3 f3) (block2 arg4 f4) (block2 arg5 f5)))
    (e12 : f12 = arg12.view.writes (Elt Ideal) g12 (quarters k0_pay580 (block2 arg2 f2) (block2 arg3 f3) (block2 arg4 f4) (block2 arg5 f5))) :
    Loads arg7 arg8 arg9 arg11 arg12 v23 v27 v29 v86 v96 v153 v163 v220 v230 v277 v287 v289 z f7 f8 f9 f11 f12 K (i 1).val where
  nxt l := by rw [e23]; exact pay581_apply l
  even l := by rw [e27]; exact pay582_apply l
  first l := by rw [e29]; exact pay583_apply l
  wp := h7
  wa := h7'
  ws := h8
  bb := h9
  xp c q l := by
    rw [e11]
    refine (quarters_read arg11 g11 (fun q => permuted k0_pay579 (match q with | 0 => block2 arg2 f2 | 1 => block2 arg3 f3 | 2 => block2 arg4 f4 | 3 => block2 arg5 f5)) c q l).trans ?_
    refine (permuted_apply _ _ l (lane l) c (pay579_apply l)).trans ?_
    match q with
    | 0 => exact (block2_apply _ _ _ _).trans (h2 _ _)
    | 1 => exact (block2_apply _ _ _ _).trans (h3 _ _)
    | 2 => exact (block2_apply _ _ _ _).trans (h4 _ _)
    | 3 => exact (block2_apply _ _ _ _).trans (h5 _ _)
  xa c q l := by
    rw [e12]
    refine (quarters_read arg12 g12 (fun q => permuted k0_pay580 (match q with | 0 => block2 arg2 f2 | 1 => block2 arg3 f3 | 2 => block2 arg4 f4 | 3 => block2 arg5 f5)) c q l).trans ?_
    refine (permuted_apply _ _ l (left l) c (pay580_apply l)).trans ?_
    match q with
    | 0 => exact (block2_apply _ _ _ _).trans (h2 _ _)
    | 1 => exact (block2_apply _ _ _ _).trans (h3 _ _)
    | 2 => exact (block2_apply _ _ _ _).trans (h4 _ _)
    | 3 => exact (block2_apply _ _ _ _).trans (h5 _ _)
  sp q j l := by
    match q with
    | 0 => rw [e86]; exact scale_apply K i 0 arg6 f6 h6 i0 _ l _ j (pay579_apply l)
    | 1 => rw [e153]; exact scale_apply K i 1 arg6 f6 h6 i1 _ l _ j (pay579_apply l)
    | 2 => rw [e220]; exact scale_apply K i 2 arg6 f6 h6 i2 _ l _ j (pay579_apply l)
    | 3 => rw [e287]; exact scale_apply K i 3 arg6 f6 h6 i3 _ l _ j (pay579_apply l)
  sa q j l := by
    match q with
    | 0 => rw [e96]; exact scale_apply K i 0 arg6 f6 h6 i0 _ l _ j (pay580_apply l)
    | 1 => rw [e163]; exact scale_apply K i 1 arg6 f6 h6 i1 _ l _ j (pay580_apply l)
    | 2 => rw [e230]; exact scale_apply K i 2 arg6 f6 h6 i2 _ l _ j (pay580_apply l)
    | 3 => exact (congrFun e297 _).trans (scale_apply K i 3 arg6 f6 h6 i3 _ l _ j (pay580_apply l))

/-- The zero fills. -/
theorem fill3 (m : Memref sig .tc .vmem S3x640x128 .f32) (g : BufTy.Contents (Elt Ideal) m.view.ty) (v : FVec Ideal S3x640x128 .f32) (hv : v = k0_pay2 ∨ v = k0_pay3)
    (p : Fin 3) (co : Fin 640) (l : Fin 128) :
    m.view.read (Elt Ideal) (m.view.writes (Elt Ideal) g [⟨Rect.unit (s := S3x640x128) ![0, 0, 0] S3x640x128.size inb_S3x640x128_S3x640x128_0_0_0, v⟩]) (ix3 p co l) = 0 := by
  refine (View.read_writes_cons_unit_of_mem (s := S3x640x128) (off := ![0, 0, 0]) (size := S3x640x128.size) m.view g _ v [] (ix3 p co l) (ix3 p co l) rfl (fun a => by
    match a with
    | ⟨0, _⟩ => show p.val = 0 + p.val; omega
    | ⟨1, _⟩ => show co.val = 0 + co.val; omega
    | ⟨2, _⟩ => show l.val = 0 + l.val; omega)).trans ?_
  rcases hv with rfl | rfl <;> exact Ideal.ofBits_zero_f32

/-- The carried even line after it is filled with zeros. -/
theorem fill2 (m : Memref sig .tc .vmem S2x640x128 .f32) (g : BufTy.Contents (Elt Ideal) m.view.ty)
    (p : Fin 2) (co : Fin 640) (l : Fin 128) :
    m.view.read (Elt Ideal) (m.view.writes (Elt Ideal) g [⟨Rect.unit (s := S2x640x128) ![0, 0, 0] S2x640x128.size inb_S2x640x128_S2x640x128_0_0_0, (k0_pay4 : FVec Ideal S2x640x128 .f32)⟩]) (ix3 p co l) = 0 := by
  refine (View.read_writes_cons_unit_of_mem (s := S2x640x128) (off := ![0, 0, 0]) (size := S2x640x128.size) m.view g _ (k0_pay4 : FVec Ideal S2x640x128 .f32) [] (ix3 p co l) (ix3 p co l) rfl (fun a => by
    match a with
    | ⟨0, _⟩ => show p.val = 0 + p.val; omega
    | ⟨1, _⟩ => show co.val = 0 + co.val; omega
    | ⟨2, _⟩ => show l.val = 0 + l.val; omega)).trans ?_
  exact Ideal.ofBits_zero_f32

end Cert.KernelIdeal.Hand

end
-- ==== Proof.Track.lean ====
/-
  The body's run on extended reals, with its values: from the blocks of one step of a convolution and the carried sums of the step
  before it leaves the step's eight output lines and the carried sums of the step.
-/
module

public import proofs.«01_k».proof.Proof.Head
public import proofs.«01_k».proof.Proof.Gen.KernelIdeal.Frame
public import proofs.«01_k».proof.Proof.Gen.KernelIdeal.Loops
public import Idealize.ShloMosaic.Lib.Pipeline.Frame
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx
open Cert.Up

local notation "𝕄" => MT nD τ sig Unit (Elt Ideal) ℕ (UR sig nD τ) ℕ

/-- The carried sums of kernel row `p` before row `r`, as a buffer. -/
def stateN (K : Conv) (r : ℕ) (p : Fin 3) : Vec Ideal S3x640x128 .f32 := fun j => K.N r (j 0) p (j 1) (j 2)
/-- The carried even line before row `r`, as a buffer. -/
def stateE (K : Conv) (r : ℕ) : Vec Ideal S2x640x128 .f32 := fun j => K.ev r (j 0) (j 1) (j 2)
/-- The eight output lines of step `t`, as a block. -/
def outBlock (K : Conv) (t : ℕ) : Vec Ideal S1x640x1x2x8x128 .bf16 := fun j => K.block t (j 1) (j 3) (j 4) (j 5)

/-- The blocks the body is handed at a grid point are those of convolution `K`. -/
structure Inputs (K : Conv) (i : grid0.Coords) (d2 d3 d4 d5 : Vec Ideal S1x1x512x128 .fp8e4m3) (d6 : Vec Ideal S1x192x128 .f32)
    (d7 : Vec Ideal S5760x512 .fp8e4m3) (d8 d9 : Vec Ideal S640x128 .f32) : Prop where
  x0 : ∀ c l, d2 (ix4 (0 : Fin 1) (0 : Fin 1) c l) = K.x c (clip (4 * (i 1).val + 0)) l
  x1 : ∀ c l, d3 (ix4 (0 : Fin 1) (0 : Fin 1) c l) = K.x c (clip (4 * (i 1).val + 1)) l
  x2 : ∀ c l, d4 (ix4 (0 : Fin 1) (0 : Fin 1) c l) = K.x c (clip (4 * (i 1).val + 2)) l
  x3 : ∀ c l, d5 (ix4 (0 : Fin 1) (0 : Fin 1) c l) = K.x c (clip (4 * (i 1).val + 3)) l
  s : ∀ r l, d6 (ix3 (0 : Fin 1) r l) = K.s r l
  w : ∀ (k : Fin 20) (kh : Fin 3) (d : Fin 2) (i : Fin 32) (c : Fin 512),
      d7 (ix2 (n0 := 5760) ⟨288 * k.val + 32 * (kh.val + 3 * d.val) + i.val, by omega⟩ c) = K.w ⟨32 * k.val + i.val, by omega⟩ c kh d.succ
  w' : ∀ (k : Fin 20) (kh : Fin 3) (i : Fin 32) (c : Fin 512),
      d7 (ix2 (n0 := 5760) ⟨288 * k.val + 192 + 32 * kh.val + i.val, by omega⟩ c) = K.w ⟨32 * k.val + i.val, by omega⟩ c kh 0
  ws : ∀ co l, d8 (ix2 co l) = K.ws co
  bb : ∀ co l, d9 (ix2 co l) = K.bias co

/-! ## What the loop leaves, buffer by buffer -/

section

variable {𝒱 : Variants} {c : Dev nD} {bd : Option 𝒱.V} {i : grid0.Coords} {arg2 : Memref sig .tc .vmem S1x1x512x128 .fp8e4m3} {harg2 : arg2.IsWhole} {arg3 : Memref sig .tc .vmem S1x1x512x128 .fp8e4m3} {harg3 : arg3.IsWhole} {arg4 : Memref sig .tc .vmem S1x1x512x128 .fp8e4m3} {harg4 : arg4.IsWhole} {arg5 : Memref sig .tc .vmem S1x1x512x128 .fp8e4m3} {harg5 : arg5.IsWhole} {arg6 : Memref sig .tc .vmem S1x192x128 .f32} {harg6 : arg6.IsWhole} {arg7 : Memref sig .tc .vmem S5760x512 .fp8e4m3} {harg7 : arg7.IsWhole} {arg8 : Memref sig .tc .vmem S640x128 .f32} {harg8 : arg8.IsWhole} {arg9 : Memref sig .tc .vmem S640x128 .f32} {harg9 : arg9.IsWhole} {arg10 : Memref sig .tc .vmem S1x640x1x2x8x128 .bf16} {harg10 : arg10.IsWhole} {arg11 : Memref sig .tc .vmem S512x512 .fp8e4m3} {harg11 : arg11.IsWhole} {arg12 : Memref sig .tc .vmem S512x512 .fp8e4m3} {harg12 : arg12.IsWhole} {arg13 : Memref sig .tc .vmem S3x640x128 .f32} {harg13 : arg13.IsWhole} {arg14 : Memref sig .tc .vmem S3x640x128 .f32} {harg14 : arg14.IsWhole} {arg15 : Memref sig .tc .vmem S2x640x128 .f32} {harg15 : arg15.IsWhole} {v23 : IVec S1x128 32} {v27 : IVec S1x128 1} {v29 : IVec S1x128 1} {v86 : FVec Ideal S8x128 .f32} {v96 : FVec Ideal S8x128 .f32} {v153 : FVec Ideal S8x128 .f32} {v163 : FVec Ideal S8x128 .f32} {v220 : FVec Ideal S8x128 .f32} {v230 : FVec Ideal S8x128 .f32} {v277 : FVec Ideal S8x128 .f32} {v287 : FVec Ideal S8x128 .f32} {v289 : IVec S8x128 32} {c0_i32_103 : BitVec 32} {X_arg7 : BufTy.Contents (Elt Ideal) arg7.view.ty} {X_arg8 : BufTy.Contents (Elt Ideal) arg8.view.ty} {X_arg9 : BufTy.Contents (Elt Ideal) arg9.view.ty} {X_arg11 : BufTy.Contents (Elt Ideal) arg11.view.ty} {X_arg12 : BufTy.Contents (Elt Ideal) arg12.view.ty}
variable {K : Conv} {t : ℕ} {G10 : BufTy.Contents (Elt Ideal) arg10.view.ty} {G13 : BufTy.Contents (Elt Ideal) arg13.view.ty}
  {G14 : BufTy.Contents (Elt Ideal) arg14.view.ty} {G15 : BufTy.Contents (Elt Ideal) arg15.view.ty}

variable (H : Loads arg7 arg8 arg9 arg11 arg12 v23 v27 v29 v86 v96 v153 v163 v220 v230 v277 v287 v289 c0_i32_103 X_arg7 X_arg8 X_arg9 X_arg11 X_arg12 K t)
    (h13 : ∀ m co l, arg13.view.read (Elt Ideal) G13 (ix3 m co l) = K.N (4 * t) m 0 co l)
    (h14 : ∀ m co l, arg14.view.read (Elt Ideal) G14 (ix3 m co l) = K.N (4 * t) m 1 co l)
    (h15 : ∀ p co l, arg15.view.read (Elt Ideal) G15 (ix3 p co l) = K.ev (4 * t) p co l)
include H h13 h14 h15

/-- What the loop leaves in the output block. -/
theorem left10 : arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 G10 G13 G14 G15 (Scf.trips k0_t1_loop.lb k0_t1_loop.ub k0_t1_loop.st)).1) = outBlock K t := by
  funext j
  obtain ⟨co, h, y, l, rfl⟩ : ∃ (co : Fin 640) (h : Fin 2) (y : Fin 8) (l : Fin 128), j = ix6 (0 : Fin 1) co (0 : Fin 1) h y l := by
    refine ⟨j 1, j 3, j 4, j 5, (eq_ix6 j).trans ?_⟩
    exact congrArg₂ (fun (a b : Fin 1) => ix6 a (j 1 : Fin 640) b (j 3 : Fin 2) (j 4 : Fin 8) (j 5 : Fin 128))
      (Subsingleton.elim (α := Fin 1) _ _) (Subsingleton.elim (α := Fin 1) _ _)
  exact (loop_value 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 K t G10 G13 G14 G15 H h13 h14 h15 20 le_rfl).2.2.2 co h y l (by have := co.isLt; omega)

/-- What the loop leaves of the carried sums of kernel row 0. -/
theorem left13 : arg13.view.read (Elt Ideal) (arg13.view.writes (Elt Ideal) G13 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 G10 G13 G14 G15 (Scf.trips k0_t1_loop.lb k0_t1_loop.ub k0_t1_loop.st)).2.1) = stateN K (4 * (t + 1)) 0 := by
  funext j
  obtain ⟨p, co, l, rfl⟩ : ∃ (p : Fin _) (co : Fin 640) (l : Fin 128), j = ix3 p co l := ⟨j 0, j 1, j 2, eq_ix3 j⟩
  exact ((loop_value 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 K t G10 G13 G14 G15 H h13 h14 h15 20 le_rfl).1 p co l).trans (if_pos (by have := co.isLt; omega))

/-- What the loop leaves of the carried sums of kernel row 1. -/
theorem left14 : arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 G10 G13 G14 G15 (Scf.trips k0_t1_loop.lb k0_t1_loop.ub k0_t1_loop.st)).2.2.1) = stateN K (4 * (t + 1)) 1 := by
  funext j
  obtain ⟨p, co, l, rfl⟩ : ∃ (p : Fin _) (co : Fin 640) (l : Fin 128), j = ix3 p co l := ⟨j 0, j 1, j 2, eq_ix3 j⟩
  exact ((loop_value 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 K t G10 G13 G14 G15 H h13 h14 h15 20 le_rfl).2.1 p co l).trans (if_pos (by have := co.isLt; omega))

/-- What the loop leaves of the carried even line. -/
theorem left15 : arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 G10 G13 G14 G15 (Scf.trips k0_t1_loop.lb k0_t1_loop.ub k0_t1_loop.st)).2.2.2) = stateE K (4 * (t + 1)) := by
  funext j
  obtain ⟨p, co, l, rfl⟩ : ∃ (p : Fin _) (co : Fin 640) (l : Fin 128), j = ix3 p co l := ⟨j 0, j 1, j 2, eq_ix3 j⟩
  exact ((loop_value 𝒱 c bd i arg2 harg2 arg3 harg3 arg4 harg4 arg5 harg5 arg6 harg6 arg7 harg7 arg8 harg8 arg9 harg9 arg10 harg10 arg11 harg11 arg12 harg12 arg13 harg13 arg14 harg14 arg15 harg15 v23 v27 v29 v86 v96 v153 v163 v220 v230 v277 v287 v289 c0_i32_103 X_arg7 X_arg8 X_arg9 X_arg11 X_arg12 K t G10 G13 G14 G15 H h13 h14 h15 20 le_rfl).2.2.1 p co l).trans (if_pos (by have := co.isLt; omega))

end

/-- The first step's guard. -/
theorem guard_iff (i : grid0.Coords) :
    (Scalar.cmpi .ne (Scalar.extui (Scalar.cmpi .eq (BitVec.ofNat 32 (i 1).val) 0#32) : BitVec 32) 0#32 = 1#1) ↔ (i 1).val = 0 := by
  have h : ∀ t : Fin 49, (Scalar.cmpi .ne (Scalar.extui (Scalar.cmpi .eq (BitVec.ofNat 32 t.val) 0#32) : BitVec 32) 0#32 = 1#1) ↔ t.val = 0 := by decide
  exact h (i 1)

/-! ## The body, run once -/

/-- The body's triple with its values. -/
theorem tracked (c : Dev nD) (i : grid0.Coords) (arg2 : Memref sig .tc .vmem S1x1x512x128 .fp8e4m3) (harg2 : arg2.IsWhole) (arg3 : Memref sig .tc .vmem S1x1x512x128 .fp8e4m3) (harg3 : arg3.IsWhole) (arg4 : Memref sig .tc .vmem S1x1x512x128 .fp8e4m3) (harg4 : arg4.IsWhole) (arg5 : Memref sig .tc .vmem S1x1x512x128 .fp8e4m3) (harg5 : arg5.IsWhole) (arg6 : Memref sig .tc .vmem S1x192x128 .f32) (harg6 : arg6.IsWhole) (arg7 : Memref sig .tc .vmem S5760x512 .fp8e4m3) (harg7 : arg7.IsWhole) (arg8 : Memref sig .tc .vmem S640x128 .f32) (harg8 : arg8.IsWhole) (arg9 : Memref sig .tc .vmem S640x128 .f32) (harg9 : arg9.IsWhole) (arg10 : Memref sig .tc .vmem S1x640x1x2x8x128 .bf16) (harg10 : arg10.IsWhole) (arg11 : Memref sig .tc .vmem S512x512 .fp8e4m3) (harg11 : arg11.IsWhole) (arg12 : Memref sig .tc .vmem S512x512 .fp8e4m3) (harg12 : arg12.IsWhole) (arg13 : Memref sig .tc .vmem S3x640x128 .f32) (harg13 : arg13.IsWhole) (arg14 : Memref sig .tc .vmem S3x640x128 .f32) (harg14 : arg14.IsWhole) (arg15 : Memref sig .tc .vmem S2x640x128 .f32) (harg15 : arg15.IsWhole)
    (Kc : Conv) (d2 d3 d4 d5 : Vec Ideal S1x1x512x128 .fp8e4m3) (d6 : Vec Ideal S1x192x128 .f32)
    (d7 : Vec Ideal S5760x512 .fp8e4m3) (d8 d9 : Vec Ideal S640x128 .f32) (hin : Inputs Kc i d2 d3 d4 d5 d6 d7 d8 d9)
    (d13 d14 : Vec Ideal S3x640x128 .f32) (d15 : Vec Ideal S2x640x128 .f32)
    (hst : (i 1).val ≠ 0 → d13 = stateN Kc (4 * (i 1).val) 0 ∧ d14 = stateN Kc (4 * (i 1).val) 1 ∧ d15 = stateE Kc (4 * (i 1).val))
    (K : PUnit → sProp 𝕄) :
    iprop((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9
      ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d13 ∗ owns (c : Thread nD τ) arg14 fullShare d14 ∗ owns (c : Thread nD τ) arg15 fullShare d15)
      ∗ ((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9
      ∗ owns (c : Thread nD τ) arg10 fullShare (outBlock Kc (i 1).val) ∗ (∃ d, owns (c : Thread nD τ) arg11 fullShare d) ∗ (∃ d, owns (c : Thread nD τ) arg12 fullShare d) ∗ owns (c : Thread nD τ) arg13 fullShare (stateN Kc (4 * ((i 1).val + 1)) 0) ∗ owns (c : Thread nD τ) arg14 fullShare (stateN Kc (4 * ((i 1).val + 1)) 1) ∗ owns (c : Thread nD τ) arg15 fullShare (stateE Kc (4 * ((i 1).val + 1)))) -∗ K ⟨⟩))
      ⊢ wp frame (wpE (defs₀ (F := Ideal)) Variants.none c none) Set.univ (cc0_up2conv3 (F := Ideal) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_up2conv3_eq_skeleton]; unfold cc0_up2conv3_skel owns
  iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%f13, %e13, H13⟩, ⟨%f14, %e14, H14⟩, ⟨%f15, %e15, H15⟩⟩, Hk⟩
  have hload := loads Kc i arg2 arg3 arg4 arg5 arg6 arg7 arg8 arg9 arg11 arg12 f2 f3 f4 f5 f6 f7 f8 f9
  by_cases hc : Scalar.cmpi .ne (Scalar.extui (Scalar.cmpi .eq (BitVec.ofNat 32 (i 1).val) 0#32) : BitVec 32) 0#32 = 1#1
  all_goals
    sl_exec (disch := sl_exact hc)
    sl_step
    iapply Hk
  · isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact left10 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => (fill3 _ _ _ (Or.inl rfl) m co l).trans (by rw [show 4 * (i 1).val = 0 by rw [(guard_iff i).mp hc]]; rfl)) (fun m co l => (fill3 _ _ _ (Or.inr rfl) m co l).trans (by rw [show 4 * (i 1).val = 0 by rw [(guard_iff i).mp hc]]; rfl)) (fun p co l => (fill2 _ _ p co l).trans (by rw [show 4 * (i 1).val = 0 by rw [(guard_iff i).mp hc]]; rfl))
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro; refine (congrArg _ (View.writes_append _ _ _ _)).trans ?_; exact left13 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => (fill3 _ _ _ (Or.inl rfl) m co l).trans (by rw [show 4 * (i 1).val = 0 by rw [(guard_iff i).mp hc]]; rfl)) (fun m co l => (fill3 _ _ _ (Or.inr rfl) m co l).trans (by rw [show 4 * (i 1).val = 0 by rw [(guard_iff i).mp hc]]; rfl)) (fun p co l => (fill2 _ _ p co l).trans (by rw [show 4 * (i 1).val = 0 by rw [(guard_iff i).mp hc]]; rfl))
    isplitl [H14]
    · iexists _; isplitr; swap; · iexact H14
      ipureintro; refine (congrArg _ (View.writes_append _ _ _ _)).trans ?_; exact left14 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => (fill3 _ _ _ (Or.inl rfl) m co l).trans (by rw [show 4 * (i 1).val = 0 by rw [(guard_iff i).mp hc]]; rfl)) (fun m co l => (fill3 _ _ _ (Or.inr rfl) m co l).trans (by rw [show 4 * (i 1).val = 0 by rw [(guard_iff i).mp hc]]; rfl)) (fun p co l => (fill2 _ _ p co l).trans (by rw [show 4 * (i 1).val = 0 by rw [(guard_iff i).mp hc]]; rfl))
    iexists _; isplitr; swap; · iexact H15
    ipureintro; refine (congrArg _ (View.writes_append _ _ _ _)).trans ?_; exact left15 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => (fill3 _ _ _ (Or.inl rfl) m co l).trans (by rw [show 4 * (i 1).val = 0 by rw [(guard_iff i).mp hc]]; rfl)) (fun m co l => (fill3 _ _ _ (Or.inr rfl) m co l).trans (by rw [show 4 * (i 1).val = 0 by rw [(guard_iff i).mp hc]]; rfl)) (fun p co l => (fill2 _ _ p co l).trans (by rw [show 4 * (i 1).val = 0 by rw [(guard_iff i).mp hc]]; rfl))
  · isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _; isplitr; swap; · iexact H9
      ipureintro; exact e9
    isplitl [H10]
    · iexists _; isplitr; swap; · iexact H10
      ipureintro; exact left10 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => by rw [e13, (hst (fun h => hc ((guard_iff i).mpr h))).1]; rfl) (fun m co l => by rw [e14, (hst (fun h => hc ((guard_iff i).mpr h))).2.1]; rfl) (fun p co l => by rw [e15, (hst (fun h => hc ((guard_iff i).mpr h))).2.2]; rfl)
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro; exact left13 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => by rw [e13, (hst (fun h => hc ((guard_iff i).mpr h))).1]; rfl) (fun m co l => by rw [e14, (hst (fun h => hc ((guard_iff i).mpr h))).2.1]; rfl) (fun p co l => by rw [e15, (hst (fun h => hc ((guard_iff i).mpr h))).2.2]; rfl)
    isplitl [H14]
    · iexists _; isplitr; swap; · iexact H14
      ipureintro; exact left14 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => by rw [e13, (hst (fun h => hc ((guard_iff i).mpr h))).1]; rfl) (fun m co l => by rw [e14, (hst (fun h => hc ((guard_iff i).mpr h))).2.1]; rfl) (fun p co l => by rw [e15, (hst (fun h => hc ((guard_iff i).mpr h))).2.2]; rfl)
    iexists _; isplitr; swap; · iexact H15
    ipureintro; exact left15 (hload _ _ (by rw [e2]; exact hin.x0) (by rw [e3]; exact hin.x1) (by rw [e4]; exact hin.x2) (by rw [e5]; exact hin.x3) (by rw [e6]; exact hin.s) (by rw [e7]; exact hin.w) (by rw [e7]; exact hin.w') (by rw [e8]; exact hin.ws) (by rw [e9]; exact hin.bb) _ _ _ _ _ _ _ _ _ _ _ _ _ _ _ _ _ rfl rfl rfl rfl rfl rfl rfl rfl rfl rfl rfl _ _ rfl rfl) (fun m co l => by rw [e13, (hst (fun h => hc ((guard_iff i).mpr h))).1]; rfl) (fun m co l => by rw [e14, (hst (fun h => hc ((guard_iff i).mpr h))).2.1]; rfl) (fun p co l => by rw [e15, (hst (fun h => hc ((guard_iff i).mpr h))).2.2]; rfl)

end Cert.KernelIdeal.Hand

end
-- ==== Proof.Args.lean ====
/-
  One image of the arguments as a convolution of the specification.
-/
module

public import proofs.«01_k».proof.Proof.Spec
public import Idealize.ShloMosaic.Lib.ValueIdx

@[expose] public section

noncomputable section

open Idealize.ShloMosaic Idealize.ShloMosaic.ValueIdx

namespace Cert.Up

/-- Image `b` with its scales, the weights with theirs, and the bias. -/
def ofArgs (x : (⟨4, ![2, 512, 192, 128]⟩ : Shape).Idx → EReal) (s : (⟨3, ![2, 192, 128]⟩ : Shape).Idx → EReal)
    (w : (⟨4, ![640, 512, 3, 3]⟩ : Shape).Idx → EReal) (ws bias : (⟨1, ![640]⟩ : Shape).Idx → EReal) (b : Fin 2) : Conv where
  x c r l := x (ix4 b c r l)
  s r l := s (ix3 b r l)
  w co c kh kw := w (ix4 co c kh kw)
  ws co := ws (ix1 co)
  bias co := bias (ix1 co)

end Cert.Up

end
-- ==== Proof.Host.lean ====
/-
  What the region of `KernelIdeal` finds in its arrays, on extended reals: each array element by element, from the arguments.
-/
module

public import proofs.«01_k».proof.Proof.Args
public import proofs.«01_k».proof.Proof.Gen.KernelIdeal.Frame
public import Idealize.ShloMosaic.Lib.ValueLayout
public import Idealize.ShloMosaic.Lib.StableHlo.Run

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.StableHlo
open Idealize.ShloMosaic.ValueIdx
open Cert.Up

variable (m : (ℓ : Loc nD τ sig) → Buf (Elt Ideal) ℓ)

/-- The convolution of image `b` that core `c`'s arguments state. -/
def conv (c : Dev nD) (b : Fin 2) : Conv :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) b

/-- The codes. -/
theorem V_v0 (c : Dev nD) (b : Fin 2) (r : Fin 192) (ch : Fin 512) (l : Fin 128) :
    V m c main_v0 (ix4 b r ch l) = (conv m c b).x ch r l := by
  have e : V m c main_v0 = transpose S2x192x512x128 [0, 2, 1, 3] (m ((c : Thread nD τ).loc main_arg0)) transposes_S2x512x192x128_S2x192x512x128_0_2_1_3 := by
    dsimp only [V, V0, hostOps0, List.flatten, List.append]
    after_results
  rw [e]
  exact transpose_apply _ _ _ _ (ix4 b ch r l) fun a => by fin_cases a <;> rfl

/-- The pixel scales. -/
theorem V_v2 (c : Dev nD) (b : Fin 2) (r : Fin 192) (l : Fin 128) :
    V m c main_v2 (ix3 b r l) = (conv m c b).s r l := by
  have e : V m c main_v2 = extf (F := Ideal) .f32 (truncf (F := Ideal) .bf16 (m ((c : Thread nD τ).loc main_arg1)) bitsLt_bf16_f32) bitsLt_bf16_f32 := by
    dsimp only [V, V0, hostOps0, List.flatten, List.append]
    after_results
  rw [e]
  rfl

/-- The channel scales. -/
theorem V_v18 (c : Dev nD) (b : Fin 2) (co : Fin 640) (l : Fin 128) :
    V m c main_v18 (ix2 co l) = (conv m c b).ws co := by
  have e : V m c main_v18 = broadcastInDim S640x128 ![0, 1] bcast_S640x1_S640x128_0_1 (broadcastInDim S640x1 ![0] bcast_S640_S640x1_0 (m ((c : Thread nD τ).loc main_arg3))) := by
    dsimp only [V, V0, hostOps0, List.flatten, List.append]
    after_results
  rw [e, broadcastInDim_apply _ _ _ _ (ix2 co (0 : Fin 1)) fun a => by fin_cases a <;> rfl,
    broadcastInDim_apply _ _ _ _ (ix1 co) fun a => by fin_cases a; rfl]
  rfl

/-- The biases. -/
theorem V_v20 (c : Dev nD) (b : Fin 2) (co : Fin 640) (l : Fin 128) :
    V m c main_v20 (ix2 co l) = (conv m c b).bias co := by
  have e : V m c main_v20 = broadcastInDim S640x128 ![0, 1] bcast_S640x1_S640x128_0_1 (broadcastInDim S640x1 ![0] bcast_S640_S640x1_0 (m ((c : Thread nD τ).loc main_arg4))) := by
    dsimp only [V, V0, hostOps0, List.flatten, List.append]
    after_results
  rw [e, broadcastInDim_apply _ _ _ _ (ix2 co (0 : Fin 1)) fun a => by fin_cases a <;> rfl,
    broadcastInDim_apply _ _ _ _ (ix1 co) fun a => by fin_cases a; rfl]
  rfl

/-- The taps of kernel column `kw`, one kernel row after the other: a piece of the rearranged weights. -/
def column (w : Vec Ideal S640x512x3x3 .fp8e4m3) (kw : Fin 3) (h : S3x3x640x512.Slices ![kw.val, 0, 0, 0] S1x3x640x512) : Vec Ideal S1x3x640x512 .fp8e4m3 :=
  broadcastInDim S1x3x640x512 ![1, 2, 3] bcast_S3x640x512_S1x3x640x512_1_2_3
    (shapeCast S3x640x512 (extractStridedSlice S1x3x640x512 ![kw.val, 0, 0, 0] (transpose S3x3x640x512 [3, 2, 0, 1] w transposes_S640x512x3x3_S3x3x640x512_3_2_0_1) h)
      shapeCasts_S1x3x640x512_S3x640x512)

/-- One kernel column of the weights. -/
theorem column_apply (w : Vec Ideal S640x512x3x3 .fp8e4m3) (kw : Fin 3) (h : S3x3x640x512.Slices ![kw.val, 0, 0, 0] S1x3x640x512)
    (z : Fin 1) (kh : Fin 3) (co : Fin 640) (ch : Fin 512) : column w kw h (ix4 z kh co ch) = w (ix4 co ch kh kw) := by
  unfold column
  rw [broadcastInDim_apply _ _ _ _ (ix3 kh co ch) fun a => by fin_cases a <;> rfl, shapeCast_1abc_abc_apply,
    extractStridedSlice_apply _ _ _ _ (ix4 kw kh co ch) fun a => by
      fin_cases a
      · rfl
      · exact (Nat.zero_add _).symm
      · exact (Nat.zero_add _).symm
      · exact (Nat.zero_add _).symm]
  exact transpose_apply _ _ _ _ (ix4 co ch kh kw) fun a => by fin_cases a <;> rfl

/-- The three pieces, in the order the kernel takes them. -/
def pieces (w : Vec Ideal S640x512x3x3 .fp8e4m3) : List ((s : Shape) × (s.Idx → Elt Ideal .fp8e4m3)) :=
  [⟨S1x3x640x512, column w 1 slices_S3x3x640x512_S1x3x640x512_1_0_0_0⟩, ⟨S1x3x640x512, column w 2 slices_S3x3x640x512_S1x3x640x512_2_0_0_0⟩,
    ⟨S1x3x640x512, column w 0 slices_S3x3x640x512_S1x3x640x512_0_0_0_0⟩]

/-- The kernel column of piece `d`. -/
def kcol : Fin 3 → Fin 3 := ![1, 2, 0]

/-- The three kernel columns, in the kernel's order. -/
theorem pieces_apply (w : Vec Ideal S640x512x3x3 .fp8e4m3) (h) (d kh : Fin 3) (co : Fin 640) (ch : Fin 512) :
    concatenate S3x3x640x512 0 (pieces w) h (ix4 d kh co ch) = w (ix4 co ch kh (kcol d)) := by
  match d with
  | 0 =>
    refine (concatenate_apply_piece 0 (pieces w) h _ 0 (by simp [pieces]) S1x3x640x512 (column w 1 slices_S3x3x640x512_S1x3x640x512_1_0_0_0) rfl rfl 0 rfl (ix4 (0 : Fin 1) kh co ch) (fun b hb => ?_) rfl).trans (column_apply ..)
    fin_cases b
    · exact absurd rfl hb
    all_goals rfl
  | 1 =>
    refine (concatenate_apply_piece 0 (pieces w) h _ 1 (by simp [pieces]) S1x3x640x512 (column w 2 slices_S3x3x640x512_S1x3x640x512_2_0_0_0) rfl rfl 1 rfl (ix4 (0 : Fin 1) kh co ch) (fun b hb => ?_) rfl).trans (column_apply ..)
    fin_cases b
    · exact absurd rfl hb
    all_goals rfl
  | 2 =>
    refine (concatenate_apply_piece 0 (pieces w) h _ 2 (by simp [pieces]) S1x3x640x512 (column w 0 slices_S3x3x640x512_S1x3x640x512_0_0_0_0) rfl rfl 2 rfl (ix4 (0 : Fin 1) kh co ch) (fun b hb => ?_) rfl).trans (column_apply ..)
    fin_cases b
    · exact absurd rfl hb
    all_goals rfl

/-- The weights, channel block by channel block. -/
theorem V_v16 (c : Dev nD) (b : Fin 2) (k : Fin 20) (d kh : Fin 3) (i : Fin 32) (ch : Fin 512) (n : Fin 5760)
    (hn : n.val = 288 * k.val + 32 * (kh.val + 3 * d.val) + i.val) :
    V m c main_v16 (ix2 n ch) = (conv m c b).w ⟨32 * k.val + i.val, by omega⟩ ch kh (kcol d) := by
  have e : V m c main_v16 = shapeCast S5760x512 (transpose S20x9x32x512 [1, 0, 2, 3]
      (shapeCast S9x20x32x512 (concatenate S3x3x640x512 0 (pieces (m ((c : Thread nD τ).loc main_arg2))) concatenates_S1x3x640x512_S1x3x640x512_S1x3x640x512_S3x3x640x512_d0)
        shapeCasts_S3x3x640x512_S9x20x32x512) transposes_S9x20x32x512_S20x9x32x512_1_0_2_3) shapeCasts_S20x9x32x512_S5760x512 := by
    dsimp only [V, V0, hostOps0, List.flatten, List.append]
    after_results
    rfl
  have hk := k.isLt
  have hi := i.isLt
  have hd := d.isLt
  have hkh := kh.isLt
  rw [e, shapeCast_apply _ _ _ (ix4 k (⟨kh.val + 3 * d.val, by omega⟩ : Fin 9) i ch) (by
      rw [Shape.rowMajor_val_four, Shape.rowMajor_val_two]
      show ((k.val * 9 + (kh.val + 3 * d.val)) * 32 + i.val) * 512 + ch.val = n.val * 512 + ch.val
      rw [hn]; ring_nf),
    transpose_apply _ _ _ _ (ix4 (⟨kh.val + 3 * d.val, by omega⟩ : Fin 9) k i ch) fun a => by fin_cases a <;> rfl,
    shapeCast_apply _ _ _ (ix4 d kh (⟨32 * k.val + i.val, by omega⟩ : Fin 640) ch) (by
      rw [Shape.rowMajor_val_four, Shape.rowMajor_val_four]
      show ((d.val * 3 + kh.val) * 640 + (32 * k.val + i.val)) * 512 + ch.val = (((kh.val + 3 * d.val) * 20 + k.val) * 32 + i.val) * 512 + ch.val
      ring_nf)]
  exact pieces_apply (m ((c : Thread nD τ).loc main_arg2)) _ d kh _ ch

end Cert.KernelIdeal.Hand

end
-- ==== Proof.Values.lean ====
/-
  The run of `KernelIdeal` with its values: each grid point is handed the blocks of its image's step and the carried sums of the
  step before it, and leaves its eight output lines; after the run the output array holds the lines of both images.
-/
module

public import proofs.«01_k».proof.Proof.Track
public import proofs.«01_k».proof.Proof.Host
public import proofs.«01_k».proof.Proof.IdealFrame
public import Idealize.ShloMosaic.Lib.Pipeline.ValueKit.Geometry

@[expose] public section

set_option maxRecDepth 65536

noncomputable section

namespace Cert.KernelIdeal.Value

open Cert.KernelIdeal Cert.KernelIdeal.Gen
open Cert.KernelIdeal.Hand (tracked Inputs stateN stateE outBlock conv V_v0 V_v2 V_v16 V_v18 V_v20 PhiA_eq defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx
open Cert.Up

local notation "𝕄" => MT nD τ sig Unit (Elt Ideal) ℕ (UR sig nD τ) ℕ

variable (m : (ℓ : Loc nD τ sig) → Buf (Elt Ideal) ℓ) (ρ : Dev nD → PrngReg)

/-! ## Where the blocks lie -/

/-- Which block each window reads or writes at a grid point. -/
theorem e0 : ∀ t : Fin cfg0.N, win0_0.index t = ![(grid0.coords t 0).val, (clip (4 * (grid0.coords t 1).val + 0)).val, 0, 0] :=
  (by decide +kernel : ∀ t : Fin grid0.N, _)
theorem e1 : ∀ t : Fin cfg0.N, win0_1.index t = ![(grid0.coords t 0).val, (clip (4 * (grid0.coords t 1).val + 1)).val, 0, 0] :=
  (by decide +kernel : ∀ t : Fin grid0.N, _)
theorem e2 : ∀ t : Fin cfg0.N, win0_2.index t = ![(grid0.coords t 0).val, (clip (4 * (grid0.coords t 1).val + 2)).val, 0, 0] :=
  (by decide +kernel : ∀ t : Fin grid0.N, _)
theorem e3 : ∀ t : Fin cfg0.N, win0_3.index t = ![(grid0.coords t 0).val, (clip (4 * (grid0.coords t 1).val + 3)).val, 0, 0] :=
  (by decide +kernel : ∀ t : Fin grid0.N, _)
theorem e4 : ∀ t : Fin cfg0.N, win0_4.index t = ![(grid0.coords t 0).val, 0, 0] :=
  (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![(grid0.coords t 0).val, 0, (grid0.coords t 1).val - 1, 0, 0, 0] :=
  (by decide +kernel : ∀ t : Fin grid0.N, _)
/-- The output block is written back only once it is complete. -/
theorem flush8 : ∀ t : Fin cfg0.N, win0_8.flush t = true → (grid0.coords t 1).val ≠ 0 :=
  (by decide +kernel : ∀ t : Fin grid0.N, _)
/-- A grid point's image. -/
theorem coords0 : ∀ t : Fin cfg0.N, (grid0.coords t 0).val = t.val / 49 := (by decide +kernel : ∀ t : Fin grid0.N, _)
/-- A grid point's step. -/
theorem coords1 : ∀ t : Fin cfg0.N, (grid0.coords t 1).val = t.val % 49 := (by decide +kernel : ∀ t : Fin grid0.N, _)

/-- The weights' block is the whole array. -/
theorem iblk5 (c : Dev nD) (t : Fin cfg0.N) (n : Fin 5760) (ch : Fin 512) :
    (iblk m c 5 t : Vec Ideal S5760x512 .fp8e4m3) (ix2 n ch) = V m c main_v16 (ix2 n ch) := by
  blk_simp [iblk, e5]
  refine congrArg _ ?_
  blk_ext [e5]

/-- The blocks of a point are those of its image's step. -/
theorem inputs (c : Dev nD) (t : Fin cfg0.N) :
    Inputs (conv m c (grid0.coords t 0)) (grid0.coords t) (iblk m c 0 t) (iblk m c 1 t) (iblk m c 2 t) (iblk m c 3 t) (iblk m c 4 t)
      (iblk m c 5 t) (iblk m c 6 t) (iblk m c 7 t) where
  x0 ch l := by
    refine Eq.trans ?_ (V_v0 m c (grid0.coords t 0) _ ch l)
    blk_simp [iblk, e0]
    refine congrArg _ ?_
    blk_ext [e0]
  x1 ch l := by
    refine Eq.trans ?_ (V_v0 m c (grid0.coords t 0) _ ch l)
    blk_simp [iblk, e1]
    refine congrArg _ ?_
    blk_ext [e1]
  x2 ch l := by
    refine Eq.trans ?_ (V_v0 m c (grid0.coords t 0) _ ch l)
    blk_simp [iblk, e2]
    refine congrArg _ ?_
    blk_ext [e2]
  x3 ch l := by
    refine Eq.trans ?_ (V_v0 m c (grid0.coords t 0) _ ch l)
    blk_simp [iblk, e3]
    refine congrArg _ ?_
    blk_ext [e3]
  s r l := by
    refine Eq.trans ?_ (V_v2 m c (grid0.coords t 0) r l)
    blk_simp [iblk, e4]
    refine congrArg _ ?_
    blk_ext [e4]
  w k kh d i ch := by
    refine (iblk5 m c t _ ch).trans ((V_v16 m c (grid0.coords t 0) k d.castSucc kh i ch _ rfl).trans (congrArg _ ?_))
    fin_cases d <;> rfl
  w' k kh i ch := by
    refine (iblk5 m c t _ ch).trans ((V_v16 m c (grid0.coords t 0) k 2 kh i ch _ ?_).trans rfl)
    · show 288 * k.val + 192 + 32 * kh.val + i.val = 288 * k.val + 32 * (kh.val + 3 * 2) + i.val
      omega
  ws co l := by
    refine Eq.trans ?_ (V_v18 m c (grid0.coords t 0) co l)
    blk_simp [iblk, e6]
    refine congrArg _ ?_
    blk_ext [e6]
  bb co l := by
    refine Eq.trans ?_ (V_v20 m c (grid0.coords t 0) co l)
    blk_simp [iblk, e7]
    refine congrArg _ ?_
    blk_ext [e7]

/-! ## The proof data -/

/-- What the three carried buffers hold before point `n`: within an image, the carried sums of its convolution. -/
def Carried (c : Dev nD) (n : ℕ) (d13 d14 : Vec Ideal S3x640x128 .f32) (d15 : Vec Ideal S2x640x128 .f32) : Prop :=
  n % 49 ≠ 0 → ∀ b : Fin 2, b.val = n / 49 →
    d13 = stateN (conv m c b) (4 * (n % 49)) 0 ∧ d14 = stateN (conv m c b) (4 * (n % 49)) 1 ∧ d15 = stateE (conv m c b) (4 * (n % 49))

/-- The invariant before point `n`. -/
def Phi (c : Dev nD) (n : ℕ) : sProp 𝕄 :=
  iprop(iprop((∃ d, owns (c : Thread nD τ) (Memref.whole cc0_scratch0) fullShare d) ∗ (∃ d, owns (c : Thread nD τ) (Memref.whole cc0_scratch1) fullShare d)
    ∗ ∃ d13 d14 d15, ⌜Carried m c n d13 d14 d15⌝ ∗ owns (c : Thread nD τ) (Memref.whole cc0_scratch2) fullShare d13
      ∗ owns (c : Thread nD τ) (Memref.whole cc0_scratch3) fullShare d14 ∗ owns (c : Thread nD τ) (Memref.whole cc0_scratch4) fullShare d15)
    ∗ ∃ r, prngReg c r)

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (conv m c (grid0.coords t 0)) (grid0.coords t 1).val
  Φ t := Phi m c t.val
  q w := Pipeline.shareOf spec0 w
  owed _ := 0

/-- The arrays the region finds. -/
theorem A_eq (c : Dev nD) (w : Fin cfg0.W) : (dats m 0 c).A w = V m c (Pipeline.arrRef spec0 w) := by dsimp only [dats]

/-- What the body leaves in each window's buffer. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) :
    (dats m 0 c).after 8 t = outBlock (conv m c (grid0.coords t 0)) (grid0.coords t 1).val := by dsimp only [dats]

/-- What the body finds in each input window's buffer. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body obligation -/

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
/-- What the body leaves at a grid point. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t)
    ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t)
    ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))

/-- The carried sums a point finds are those its step starts from. -/
theorem carried_in (c : Dev nD) (t : Fin cfg0.N) {d13 d14 d15} (h : Carried m c t.val d13 d14 d15) (hne : (grid0.coords t 1).val ≠ 0) :
    d13 = stateN (conv m c (grid0.coords t 0)) (4 * (grid0.coords t 1).val) 0 ∧ d14 = stateN (conv m c (grid0.coords t 0)) (4 * (grid0.coords t 1).val) 1
      ∧ d15 = stateE (conv m c (grid0.coords t 0)) (4 * (grid0.coords t 1).val) := by
  rw [coords1] at hne ⊢
  exact h hne (grid0.coords t 0) (coords0 t)

/-- The carried sums a point leaves are those the next point starts from. -/
theorem carried_out (c : Dev nD) (t : Fin cfg0.N) :
    Carried m c (t.val + 1) (stateN (conv m c (grid0.coords t 0)) (4 * ((grid0.coords t 1).val + 1)) 0)
      (stateN (conv m c (grid0.coords t 0)) (4 * ((grid0.coords t 1).val + 1)) 1) (stateE (conv m c (grid0.coords t 0)) (4 * ((grid0.coords t 1).val + 1))) := by
  intro hne b hb
  have h1 : (t.val + 1) % 49 = (grid0.coords t 1).val + 1 := by rw [coords1]; omega
  have h0 : b = grid0.coords t 0 := Fin.ext (by rw [hb, coords0]; omega)
  rw [h1, h0]
  exact ⟨rfl, rfl, rfl⟩

/-- The body's triple at a grid point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    show (dats m 0 c).Φ t.castSucc = Phi m c t.val from rfl, show (dats m 0 c).Φ t.succ = Phi m c (t.val + 1) from rfl,
    after0, after1, after2, after3, after4, after5, after6, after7, after8]
  unfold Phi
  iintro ⟨⟨⟨S0, S1, %d13, %d14, %d15, %hc, S2, S3, S4⟩, Hg⟩, HO, ⟨%_, H0⟩, ⟨%_, H1⟩, ⟨%_, H2⟩, ⟨%_, H3⟩, ⟨%_, H4⟩, ⟨%_, H5⟩, ⟨%_, H6⟩, ⟨%_, H7⟩, ⟨%d8, H8⟩⟩
  iapply (tracked c (grid0.coords t) _ _ _ _ _ _ _ _ _ _ _ _ _ _ _ _ _ _ _ _ _ _ _ _ _ _ _ _ (conv m c (grid0.coords t 0))
    (iblk m c 0 t) (iblk m c 1 t) (iblk m c 2 t) (iblk m c 3 t) (iblk m c 4 t) (iblk m c 5 t) (iblk m c 6 t) (iblk m c 7 t) (inputs m c t)
    d13 d14 d15 (carried_in m c t hc))
  isplitl [H0 H1 H2 H3 H4 H5 H6 H7 H8 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [S0]; · iexact S0
    isplitl [S1]; · iexact S1
    isplitl [S2]; · iexact S2
    isplitl [S3]; · iexact S3
    iexact S4
  iintro ⟨H0, H1, H2, H3, H4, H5, H6, H7, H8, S0, S1, S2, S3, S4⟩
  isplitl [S0 S1 S2 S3 S4 Hg]
  · isplitl [S0 S1 S2 S3 S4]
    · isplitl [S0]; · iexact S0
      isplitl [S1]; · iexact S1
      iexists _, _, _
      isplitr; swap
      · isplitl [S2]; · iexact S2
        isplitl [S3]; · iexact S3
        iexact S4
      ipureintro; exact carried_out m c t
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at every grid point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The launch -/

/-- The scratch buffers as the region finds them. -/
theorem phi_in (c : Dev nD) : (Pipeline.ΦA spec0 c : sProp 𝕄) ⊢ (dats m 0 c).Φ 0 := by
  rw [PhiA_eq, show (dats m 0 c).Φ 0 = Phi m c 0 from rfl]
  unfold Phi
  iintro ⟨⟨S0, S1, ⟨%d2, S2⟩, ⟨%d3, S3⟩, ⟨%d4, S4⟩⟩, Hg⟩
  isplitl [S0 S1 S2 S3 S4]
  · isplitl [S0]; · iexact S0
    isplitl [S1]; · iexact S1
    iexists _, _, _
    isplitr; swap
    · isplitl [S2]; · iexact S2
      isplitl [S3]; · iexact S3
      iexact S4
    ipureintro
    exact fun h => absurd rfl h
  iexact Hg

/-- The scratch buffers as the region leaves them. -/
theorem phi_out (c : Dev nD) : (dats m 0 c).Φ (Fin.last cfg0.N) ⊢ (Pipeline.ΦA spec0 c : sProp 𝕄) := by
  rw [PhiA_eq, show (dats m 0 c).Φ (Fin.last cfg0.N) = Phi m c cfg0.N from rfl]
  unfold Phi
  iintro ⟨⟨S0, S1, %d2, %d3, %d4, -, S2, S3, S4⟩, Hg⟩
  isplitl [S0 S1 S2 S3 S4]
  · isplitl [S0]; · iexact S0
    isplitl [S1]; · iexact S1
    isplitl [S2]; · iexists _; iexact S2
    isplitl [S3]; · iexists _; iexact S3
    iexists _; iexact S4
  iexact Hg

set_option backward.isDefEq.respectTransparency.types false in
/-- From any memory with zero counters every weakly fair execution of @main ends with the output array at the lines the points
    left. -/
theorem run_main :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around_track_shared cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := phi_in m) (hout := phi_out m)

/-! ## The output array -/

/-- The output array after the run. -/
def result (c : Dev nD) : Vec Ideal S2x640x48x2x8x128 .bf16 := fun j => (conv m c (j 0)).block ((j 2).val + 1) (j 1) (j 3) (j 4) (j 5)

/-- The array the region leaves. -/
theorem final (c : Dev nD) : (dats m 0 c).arrAt 8 cfg0.N = result m c := by
  refine (dats m 0 c).arrAt_eq_of_covers 8 _ (by decide +kernel) fun t hf y => ?_
  have hne := flush8 t hf
  blk_simp
  rw [after8]
  have hj : ((win0_8.blk t).view.emb y : S2x640x48x2x8x128.Idx)
      = ix6 (grid0.coords t 0 : Fin 2) (y 1 : Fin 640) (⟨(grid0.coords t 1).val - 1, by have := (grid0.coords t 1).isLt; change _ < 49 at this; omega⟩ : Fin 48) (y 3 : Fin 2) (y 4 : Fin 8) (y 5 : Fin 128) := by
    idx_bounds y
    blk_ext [e8]
  refine Eq.trans ?_ (congrArg (result m c) hj.symm)
  show (conv m c (grid0.coords t 0)).block (grid0.coords t 1).val (y 1) (y 3) (y 4) (y 5)
    = (conv m c (grid0.coords t 0)).block ((grid0.coords t 1).val - 1 + 1) (y 1) (y 3) (y 4) (y 5)
  rw [Nat.sub_add_cancel (Nat.one_le_iff_ne_zero.mpr hne)]

end Cert.KernelIdeal.Value

end
-- ==== Proof.Algebra.lean ====
/-
  The kernel's arrangement of the upsampled convolution against the plain one: the nine taps over the padded upsampled image of
  scaled pixels, their sum times the channel's scale, plus the bias. The two agree where every scale is nonnegative and finite:
  such a factor goes in and out of a sum of extended reals.
-/
module

public import proofs.«01_k».proof.Proof.Spec

@[expose] public section

noncomputable section

open scoped BigOperators

namespace Cert.Up.Conv

variable (K : Conv)

/-- The padded upsampled image of scaled pixels, at row `i` of 386 and column `j` of 258. -/
def px (c : Fin 512) (i j : ℕ) : EReal :=
  if h : (1 ≤ i ∧ i < 385) ∧ (1 ≤ j ∧ j < 257) then
    K.x c ⟨(i - 1) / 2, by omega⟩ ⟨(j - 1) / 2, by omega⟩ * K.s ⟨(i - 1) / 2, by omega⟩ ⟨(j - 1) / 2, by omega⟩
  else 0

/-- One tap over that image. -/
def tap (co : Fin 640) (kh kw : Fin 3) (Y X : ℕ) : EReal := ∑ c, K.px c (Y + kh.val) (X + kw.val) * K.w co c kh kw

/-- The convolution at output line `Y`, column `X`, tap by tap. -/
def out (co : Fin 640) (Y X : ℕ) : EReal :=
  (((((((((0 + K.tap co 0 0 Y X) + K.tap co 0 1 Y X) + K.tap co 0 2 Y X) + K.tap co 1 0 Y X) + K.tap co 1 1 Y X)
    + K.tap co 1 2 Y X) + K.tap co 2 0 Y X) + K.tap co 2 1 Y X) + K.tap co 2 2 Y X) * K.ws co + K.bias co

/-- Every scale is nonnegative and finite. -/
structure Usable : Prop where
  s0 : ∀ r w, 0 ≤ K.s r w
  s1 : ∀ r w, K.s r w ≠ ⊤
  w0 : ∀ co, 0 ≤ K.ws co
  w1 : ∀ co, K.ws co ≠ ⊤

/-- A finite factor that is not negative moves out of a sum. -/
theorem mul_sum' {ι : Type} (s : Finset ι) (f : ι → EReal) (a : EReal) (h0 : 0 ≤ a) (h1 : a ≠ ⊤) : ∑ i ∈ s, f i * a = (∑ i ∈ s, f i) * a := by
  classical
  induction s using Finset.induction_on with
  | empty => simp
  | insert i s hi ih => rw [Finset.sum_insert hi, Finset.sum_insert hi, ih, EReal.right_distrib_of_nonneg_of_ne_top h0 h1]

variable {K}

/-- A tap whose pixel lies in the image, scaled. -/
theorem tap_in (H : K.Usable) (co : Fin 640) (kh kw : Fin 3) (Y X : ℕ) (r : ℕ) (w : Fin 128) (hr : 3 ≤ r ∧ r < 195)
    (hY : (Y + kh.val - 1) / 2 = r - 3 ∧ 1 ≤ Y + kh.val) (hX : (X + kw.val - 1) / 2 = w.val ∧ 1 ≤ X + kw.val) :
    K.tap co kh kw Y X * K.ws co = K.dot co kh kw r w * (K.sc r w * K.ws co) := by
  have hw := w.isLt
  unfold tap dot
  rw [show K.sc r w = K.s (clip r) w from if_pos hr, ← mul_assoc, ← mul_sum' _ _ _ (H.s0 _ _) (H.s1 _ _)]
  congr 1
  refine Finset.sum_congr rfl fun c _ => ?_
  unfold px
  rw [dif_pos ⟨⟨hY.2, by omega⟩, hX.2, by omega⟩]
  have e1 : (⟨(Y + kh.val - 1) / 2, by omega⟩ : Fin 192) = clip r := Fin.ext (by show (Y + kh.val - 1) / 2 = min (r - 3) 191; omega)
  have e2 : (⟨(X + kw.val - 1) / 2, by omega⟩ : Fin 128) = w := Fin.ext hX.1
  rw [e1, e2, mul_right_comm, mul_comm (K.x c (clip r) w)]

/-- A tap above or below the image. -/
theorem tap_row (co : Fin 640) (kh kw : Fin 3) (Y X : ℕ) (r : ℕ) (w : Fin 128) (hr : ¬ (3 ≤ r ∧ r < 195))
    (hY : ¬ (1 ≤ Y + kh.val ∧ Y + kh.val < 385)) :
    K.tap co kh kw Y X * K.ws co = K.dot co kh kw r w * (K.sc r w * K.ws co) := by
  unfold tap
  rw [show K.sc r w = 0 from if_neg hr, zero_mul, mul_zero, Finset.sum_eq_zero, zero_mul]
  intro c _
  unfold px
  rw [dif_neg fun h => hY h.1, zero_mul]

/-- A tap left or right of the image. -/
theorem tap_col (co : Fin 640) (kh kw : Fin 3) (Y X : ℕ) (hX : ¬ (1 ≤ X + kw.val ∧ X + kw.val < 257)) :
    K.tap co kh kw Y X * K.ws co = 0 := by
  unfold tap
  rw [Finset.sum_eq_zero, zero_mul]
  intro c _
  unfold px
  rw [dif_neg fun h => hX h.2, zero_mul]

/-- The channel's scale, tap by tap. -/
theorem out_eq (H : K.Usable) (co : Fin 640) (Y X : ℕ) :
    K.out co Y X = (((((((((K.tap co 0 0 Y X * K.ws co) + K.tap co 0 1 Y X * K.ws co) + K.tap co 0 2 Y X * K.ws co)
      + K.tap co 1 0 Y X * K.ws co) + K.tap co 1 1 Y X * K.ws co) + K.tap co 1 2 Y X * K.ws co) + K.tap co 2 0 Y X * K.ws co)
      + K.tap co 2 1 Y X * K.ws co) + K.tap co 2 2 Y X * K.ws co) + K.bias co := by
  unfold out
  simp only [EReal.right_distrib_of_nonneg_of_ne_top (H.w0 co) (H.w1 co), zero_add]

/-- A tap at walk row `r`, whether or not the row lies in the image. -/
theorem tap_any (H : K.Usable) (co : Fin 640) (kh kw : Fin 3) (Y X : ℕ) (r : ℕ) (w : Fin 128) (hr : 2 ≤ r ∧ r < 196)
    (hY : Y + kh.val = 2 * (r - 3) + 1 ∨ Y + kh.val = 2 * (r - 3) + 2 ∨ r = 2 ∧ Y + kh.val = 0) (hY' : r = 2 → Y + kh.val = 0)
    (hX : X + kw.val = 2 * w.val + 1 ∨ X + kw.val = 2 * w.val + 2) :
    K.tap co kh kw Y X * K.ws co = K.dot co kh kw r w * (K.sc r w * K.ws co) := by
  by_cases h : 3 ≤ r ∧ r < 195
  · exact tap_in H co kh kw Y X r w h ⟨by omega, by omega⟩ ⟨by omega, by omega⟩
  · refine tap_row co kh kw Y X r w h ?_
    omega

/-- A line of the kernel's: kernel row `kh` over walk row `ρ kh`. -/
def line (ρ : Fin 3 → ℕ) (p : Fin 2) (co : Fin 640) (l : Fin 128) : EReal :=
  cols (fun m l => K.n (ρ 0) m 0 co l + K.n (ρ 2) m 2 co l + K.n (ρ 1) m 1 co l) p l

theorem lane_laneOf (w : Fin 128) : lane (laneOf w) = w := by
  apply Fin.ext; show (w.val % 64 * 2 + w.val / 64) / 2 + (w.val % 64 * 2 + w.val / 64) % 2 * 64 = w.val; omega

/-- The kernel's sum of a line at one column is the plain convolution there, whatever rows of codes the line's three kernel rows read. -/
theorem line_eq (H : K.Usable) (co : Fin 640) (Y X : ℕ) (ρ : Fin 3 → ℕ) (p : Fin 2) (l : Fin 128) (hX : X = 2 * (lane l).val + p.val)
    (h2 : ∀ kh, 2 ≤ ρ kh ∧ ρ kh < 196)
    (hY : ∀ kh : Fin 3, Y + kh.val = 2 * (ρ kh - 3) + 1 ∨ Y + kh.val = 2 * (ρ kh - 3) + 2 ∨ ρ kh = 2 ∧ Y + kh.val = 0)
    (hY' : ∀ kh : Fin 3, ρ kh = 2 → Y + kh.val = 0) :
    K.line ρ p co l = K.out co Y X := by
  have T := fun (kh kw : Fin 3) (w : Fin 128) (h : X + kw.val = 2 * w.val + 1 ∨ X + kw.val = 2 * w.val + 2) =>
    tap_any H co kh kw Y X (ρ kh) w (h2 kh) (hY kh) (hY' kh) h
  have hl := (lane l).isLt
  rw [out_eq H]
  match p, hX with
  | 0, hX =>
    have hX : X = 2 * (lane l).val := hX
    rw [T 0 1 (lane l) (.inl (by show X + 1 = _; omega)), T 1 1 (lane l) (.inl (by show X + 1 = _; omega)),
      T 2 1 (lane l) (.inl (by show X + 1 = _; omega)), T 0 2 (lane l) (.inr (by show X + 2 = _; omega)),
      T 1 2 (lane l) (.inr (by show X + 2 = _; omega)), T 2 2 (lane l) (.inr (by show X + 2 = _; omega))]
    unfold line cols
    dsimp only [n]
    by_cases h : l = 0
    · subst h
      have hX : X = 0 := hX
      rw [tap_col co 0 0 Y X (by subst hX; simp), tap_col co 1 0 Y X (by subst hX; simp), tap_col co 2 0 Y X (by subst hX; simp), if_pos rfl]
      simp only [zero_add, add_zero]
      abel
    · have h0 : (lane l).val ≠ 0 := fun e => h (Fin.ext (by have : l.val / 2 + l.val % 2 * 64 = 0 := e; show l.val = 0; omega))
      have hw : (left l).val = ((lane l).val + 127) % 128 := rfl
      rw [T 0 0 (left l) (.inr (by show X + 0 = _; omega)), T 1 0 (left l) (.inr (by show X + 0 = _; omega)),
        T 2 0 (left l) (.inr (by show X + 0 = _; omega)), if_neg h]
      abel
  | 1, hX =>
    have hX : X = 2 * (lane l).val + 1 := hX
    have hR : lane (right l) = ⟨((lane l).val + 1) % 128, by omega⟩ := lane_laneOf _
    have hL : left (right l) = lane l := Fin.ext (by
      show ((lane (right l)).val + 127) % 128 = _; rw [hR]; show (((lane l).val + 1) % 128 + 127) % 128 = _; omega)
    rw [T 0 1 (lane l) (.inr (by show X + 1 = _; omega)), T 1 1 (lane l) (.inr (by show X + 1 = _; omega)),
      T 2 1 (lane l) (.inr (by show X + 1 = _; omega)), T 0 0 (lane l) (.inl (by show X + 0 = _; omega)),
      T 1 0 (lane l) (.inl (by show X + 0 = _; omega)), T 2 0 (lane l) (.inl (by show X + 0 = _; omega))]
    unfold line cols
    dsimp only [n]
    rw [hL]
    by_cases h : right l = 0
    · have h1 : ((lane l).val + 1) % 128 = 0 := by
        have := congrArg Fin.val (hR.symm.trans (congrArg lane h)); exact this
      rw [tap_col co 0 2 Y X (by show ¬ (1 ≤ X + 2 ∧ X + 2 < 257); omega), tap_col co 1 2 Y X (by show ¬ (1 ≤ X + 2 ∧ X + 2 < 257); omega),
        tap_col co 2 2 Y X (by show ¬ (1 ≤ X + 2 ∧ X + 2 < 257); omega), if_pos h]
      simp only [zero_add, add_zero]
      abel
    · have h1 : (lane l).val ≠ 127 := fun e => h (by
        show laneOf ⟨((lane l).val + 1) % 128, _⟩ = 0
        apply Fin.ext; show ((lane l).val + 1) % 128 % 64 * 2 + ((lane l).val + 1) % 128 / 64 = 0; omega)
      have hv : (lane (right l)).val = ((lane l).val + 1) % 128 := congrArg Fin.val hR
      rw [T 0 2 (lane (right l)) (.inl (by show X + 2 = _; omega)), T 1 2 (lane (right l)) (.inl (by show X + 2 = _; omega)),
        T 2 2 (lane (right l)) (.inl (by show X + 2 = _; omega)), if_neg h]
      abel

/-- A line of the block, column by column. -/
theorem half_eq (f : Fin 2 → Fin 128 → EReal) (g : ℕ → EReal) (h : Fin 2) (l : Fin 128)
    (hf : ∀ p l, f p l = g (2 * (lane l).val + p.val)) : half f h l = g (128 * h.val + l.val) := by
  have hl := l.isLt
  unfold half
  match h with
  | 0 =>
    dsimp only
    split_ifs with h0
    · rw [hf]; congr 1; show 2 * (l.val / 2 + l.val % 2 * 64) + 0 = 128 * 0 + l.val; omega
    · rw [hf]; congr 1
      show 2 * ((l.val + 127) % 128 / 2 + (l.val + 127) % 128 % 2 * 64) + 1 = 128 * 0 + l.val; omega
  | 1 =>
    dsimp only
    split_ifs with h0
    · rw [hf]; congr 1
      show 2 * ((l.val + 1) % 128 / 2 + (l.val + 1) % 128 % 2 * 64) + 0 = 128 * 1 + l.val; omega
    · rw [hf]; congr 1; show 2 * (l.val / 2 + l.val % 2 * 64) + 1 = 128 * 1 + l.val; omega

/-- The eight lines of step `t + 1` are output lines `8 t … 8 t + 7`. -/
theorem block_eq (H : K.Usable) (t : ℕ) (ht : t < 48) (co : Fin 640) (h : Fin 2) (y : Fin 8) (l : Fin 128) :
    K.block (t + 1) co h y l = K.out co (8 * t + y.val) (128 * h.val + l.val) := by
  have hy := y.isLt
  unfold block
  refine half_eq _ (fun X => K.out co (8 * t + y.val) X) h l fun p l => ?_
  split_ifs with h0
  · rw [show 4 * (t + 1) + y.val / 2 = (4 * t + y.val / 2 + 2) + 1 + 1 by omega]
    refine Eq.trans ?_ (line_eq H co _ _ ![4 * t + y.val / 2 + 2, 4 * t + y.val / 2 + 3, 4 * t + y.val / 2 + 3] p l rfl ?_ ?_ ?_)
    · rfl
    · intro kh; fin_cases kh <;> dsimp <;> omega
    · intro kh; fin_cases kh <;> dsimp <;> omega
    · intro kh; fin_cases kh <;> dsimp <;> omega
  · rw [show 4 * (t + 1) + y.val / 2 = (4 * t + y.val / 2 + 3) + 1 by omega]
    refine Eq.trans ?_ (line_eq H co _ _ ![4 * t + y.val / 2 + 3, 4 * t + y.val / 2 + 3, 4 * t + y.val / 2 + 4] p l rfl ?_ ?_ ?_)
    · rfl
    · intro kh; fin_cases kh <;> dsimp <;> omega
    · intro kh; fin_cases kh <;> dsimp <;> omega
    · intro kh; fin_cases kh <;> dsimp <;> omega

end Cert.Up.Conv

end
-- ==== Proof.Result.lean ====
/-
  The result of `KernelIdeal`: the output array's lines, put in place by the host lines after the region, are the plain
  convolution wherever the scales are usable.
-/
module

public import proofs.«01_k».proof.Proof.Values
public import proofs.«01_k».proof.Proof.Algebra

@[expose] public section

set_option maxRecDepth 65536

noncomputable section

namespace Cert.KernelIdeal.Value

open Cert.KernelIdeal Cert.KernelIdeal.Gen
open Cert.KernelIdeal.Hand (conv)
open Idealize.ShloMosaic Idealize.ShloMosaic.TcCoe Idealize.ShloMosaic.Tactic Idealize.ShloMosaic.StableHlo
open Idealize.SL.Sem
open Idealize.ShloMosaic.ValueIdx
open Cert.Up

variable (m : (ℓ : Loc nD τ sig) → Buf (Elt Ideal) ℓ) (ρ : Dev nD → PrngReg)

/-- The array the region leaves, as the host lines after it find it. -/
theorem found (c : Dev nD) :
    Pipeline.withArrays (cfgs 0).spec c (V0 m c) (fun w => (dats m 0 c).arrAt w (cfgs 0).N) (Proc.devRef .tc main_v21) = result m c := by
  refine (Pipeline.withArrays_arr_shared spec0 c (V0 m c) (fun w => (dats m 0 c).arrAt w (cfgs 0).N) (fun w w' hne e => ?_) 8).trans (final m c)
  have hin : (cfg0.win w).isOut = false := by
    have h : ∀ w w' : Fin 9, w ≠ w' → Pipeline.arrRef spec0 w = Pipeline.arrRef spec0 w' → (spec0 w).isOut = false := by decide
    exact h w w' hne e
  exact ((dats m 0 c).arrAt_in w hin _).trans (A_eq m c w)

/-- The plain convolution of the arguments, as a buffer. -/
def target (c : Dev nD) : Vec Ideal S2x640x384x256 .bf16 := fun j => (conv m c (j 0)).out (j 1) (j 2).val (j 3).val

/-- The lines after the region put the output lines in place. -/
theorem tail (hu : ∀ c b, (conv m c b).Usable) (c : Dev nD) :
    Pipeline.afterTail₀ cfgs (dats m) 0 (V0 m) [hostOps1] c main_v23 = target m c := by
  have e : Pipeline.afterTail₀ cfgs (dats m) 0 (V0 m) [hostOps1] c main_v23
      = shapeCast S2x640x384x256 (transpose S2x640x48x8x2x128 [0, 1, 2, 4, 3, 5] (result m c) transposes_S2x640x48x2x8x128_S2x640x48x8x2x128_0_1_2_4_3_5)
          shapeCasts_S2x640x48x8x2x128_S2x640x384x256 := by
    unfold Pipeline.afterTail₀
    dsimp only [hostOps1, List.flatten, List.append]
    after_results
    rw [found]
    rfl
  rw [e]
  funext j
  obtain ⟨b, co, Y, X, rfl⟩ : ∃ (b : Fin 2) (co : Fin 640) (Y : Fin 384) (X : Fin 256), j = ix4 b co Y X := ⟨j 0, j 1, j 2, j 3, eq_ix4 j⟩
  have hY := Y.isLt
  have hX := X.isLt
  rw [shapeCast_apply _ _ _ (ix6 b co (⟨Y.val / 8, by omega⟩ : Fin 48) (⟨Y.val % 8, by omega⟩ : Fin 8) (⟨X.val / 128, by omega⟩ : Fin 2) (⟨X.val % 128, by omega⟩ : Fin 128)) (by
      rw [Shape.rowMajor_val_six, Shape.rowMajor_val_four]
      show ((((b.val * 640 + co.val) * 48 + Y.val / 8) * 8 + Y.val % 8) * 2 + X.val / 128) * 128 + X.val % 128 = ((b.val * 640 + co.val) * 384 + Y.val) * 256 + X.val
      omega),
    transpose_apply _ _ _ _ (ix6 b co (⟨Y.val / 8, by omega⟩ : Fin 48) (⟨X.val / 128, by omega⟩ : Fin 2) (⟨Y.val % 8, by omega⟩ : Fin 8) (⟨X.val % 128, by omega⟩ : Fin 128)) fun a => by fin_cases a <;> rfl]
  refine (Conv.block_eq (hu c b) (Y.val / 8) (by omega) co ⟨X.val / 128, by omega⟩ ⟨Y.val % 8, by omega⟩ ⟨X.val % 128, by omega⟩).trans ?_
  show (conv m c b).out co (8 * (Y.val / 8) + Y.val % 8) (128 * (X.val / 128) + X.val % 128) = (conv m c b).out co Y.val X.val
  rw [show 8 * (Y.val / 8) + Y.val % 8 = Y.val by omega, show 128 * (X.val / 128) + X.val % 128 = X.val by omega]

/-- The run: the result is the plain convolution, the arguments end as launched. -/
theorem run_value (hu : ∀ c b, (conv m c b).Usable) :
    θ_run defs (onTc (τ := τ) (main (F := Ideal))) ⟨m, fun _ => 0, ρ⟩ (fun r => ∀ c : Dev nD,
      r.2.mem ((c.tc : Thread nD τ).loc main_v23) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v23 (Pipeline.mem_restRefs_of main_v23 (by decide) (by decide))).trans (tail m hu c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.KernelIdeal.Value

end
-- ==== Proof.RefValue.lean ====
/-
  The result of `ReferenceIdeal` on extended reals: element by element the plain convolution.
-/
module

public import proofs.«01_k».proof.Proof.Args
public import proofs.«01_k».proof.Proof.Algebra
public import proofs.«01_k».proof.Proof.Gen.ReferenceIdeal.Frame
public import Idealize.ShloMosaic.Lib.ValueLayout
public import Idealize.ShloMosaic.Lib.IdealHost
public import Idealize.ShloMosaic.Lib.KernelVsHost
public import Idealize.ShloMosaic.Lib.StableHlo.Run
public import Idealize.ShloMosaic.Lib.Pipeline.ValueKit.Geometry

@[expose] public section

set_option maxRecDepth 65536

noncomputable section

namespace Cert.ReferenceIdeal.Value

open Cert.ReferenceIdeal Cert.ReferenceIdeal.Gen
open Idealize.ShloMosaic Idealize.ShloMosaic.TcCoe Idealize.ShloMosaic.Tactic Idealize.ShloMosaic.StableHlo
open Idealize.ShloMosaic.Pipeline (Dat)
open Idealize.SL.Sem
open Idealize.ShloMosaic.ValueIdx
open Cert.Up

variable (m : (ℓ : Loc nD τ sig) → Buf (Elt Ideal) ℓ) (ρ : Dev nD → PrngReg)

/-- The convolution of image `b` that core `c`'s arguments state. -/
def conv (c : Dev nD) (b : Fin 2) : Conv :=
  ofArgs (m ((c : Thread nD τ).loc main_arg0)) (m ((c : Thread nD τ).loc main_arg1)) (m ((c : Thread nD τ).loc main_arg2))
    (m ((c : Thread nD τ).loc main_arg3)) (m ((c : Thread nD τ).loc main_arg4)) b

/-! ## The dequantized arrays -/

/-- The scaled images. -/
def xb (c : Dev nD) : Vec Ideal S2x512x192x128 .bf16 := k0_pay1 (V m c main_arg0) (V m c main_arg1)
/-- The weights. -/
def wb (c : Dev nD) : Vec Ideal S640x512x3x3 .bf16 := k0_pay2 (F := Ideal) (V m c main_arg2)

/-- The scaled images, element by element. -/
theorem xb_apply (c : Dev nD) (b : Fin 2) (ch : Fin 512) (r : Fin 192) (l : Fin 128) :
    xb m c (ix4 b ch r l) = (conv m c b).x ch r l * (conv m c b).s r l := by
  show (conv m c b).x ch r l * broadcastTo S2x512x192x128 (shapeCast S2x1x192x128 (V m c main_arg1) shapeCasts_S2x192x128_S2x1x192x128 : Vec Ideal S2x1x192x128 .f32) broadcasts_S2x1x192x128_S2x512x192x128 (ix4 b ch r l) = _
  rw [broadcastTo_apply _ _ _ (ix4 b (0 : Fin 1) r l) fun a => by fin_cases a <;> rfl,
    shapeCast_apply _ _ _ (ix3 b r l) (by
      rw [Shape.rowMajor_val_three, Shape.rowMajor_val_four]
      show (b.val * 192 + r.val) * 128 + l.val = ((b.val * 1 + 0) * 192 + r.val) * 128 + l.val
      omega)]
  rfl

/-- A block of an input is the whole array. -/
theorem iblk0 (c : Dev nD) (t : Fin cfg0.N) : iblk m c 0 t = V m c main_arg0 :=
  funext fun y => congrArg (V m c main_arg0) (funext fun a => Fin.ext (show 0 * _ + 1 * (y a).val = (y a).val by omega))
theorem iblk1 (c : Dev nD) (t : Fin cfg0.N) : iblk m c 1 t = V m c main_arg1 :=
  funext fun y => congrArg (V m c main_arg1) (funext fun a => Fin.ext (show 0 * _ + 1 * (y a).val = (y a).val by omega))
theorem iblk2 (c : Dev nD) (t : Fin cfg0.N) : iblk m c 2 t = V m c main_arg2 :=
  funext fun y => congrArg (V m c main_arg2) (funext fun a => Fin.ext (show 0 * _ + 1 * (y a).val = (y a).val by omega))

/-- The region leaves the scaled images. -/
theorem final3 (c : Dev nD) : (dats m 0 c).arrAt 3 cfg0.N = xb m c := by
  refine (dats m 0 c).arrAt_eq_of_covers 3 _ (by decide +kernel) fun t hf y => ?_
  blk_simp
  rw [after0_3, out0_3, iblk0, iblk1, View.canon_unit_zero (by decide), View.ld_unit_zero (by decide), View.ld_unit_zero (by decide)]
  exact congrArg (xb m c) (funext fun a => Fin.ext (show (y a).val = 0 * _ + 1 * (y a).val by omega))

/-- The region leaves the weights. -/
theorem final4 (c : Dev nD) : (dats m 0 c).arrAt 4 cfg0.N = wb m c := by
  refine (dats m 0 c).arrAt_eq_of_covers 4 _ (by decide +kernel) fun t hf y => ?_
  blk_simp
  rw [after0_4, out0_4, iblk2, View.canon_unit_zero (by decide), View.ld_unit_zero (by decide)]
  exact congrArg (wb m c) (funext fun a => Fin.ext (show (y a).val = 0 * _ + 1 * (y a).val by omega))

/-! ## The host lines, as functions of what they read -/

/-- The image upsampled to twice its lines and columns, in a border of zeros. -/
def up (x : Vec Ideal S2x512x192x128 .bf16) : Vec Ideal S2x512x386x258 .bf16 :=
  pad S2x512x386x258 ![0, 0, 1, 1] ![0, 0, 1, 1] ![0, 0, 0, 0]
    (shapeCast S2x512x384x256 (broadcastInDim S2x512x384x128x2 ![0, 1, 2, 3] bcast_S2x512x384x128_S2x512x384x128x2_0_1_2_3
      (shapeCast S2x512x384x128 (broadcastInDim S2x512x192x2x128 ![0, 1, 2, 4] bcast_S2x512x192x128_S2x512x192x2x128_0_1_2_4 x)
        shapeCasts_S2x512x192x2x128_S2x512x384x128)) shapeCasts_S2x512x384x128x2_S2x512x384x256)
    (sitofp (F := Ideal) .bf16 (constantI S_ 32 0#32)) pads_S2x512x384x256_S2x512x386x258_000_000_110_110 h_S_

/-- One tap: a window of the image against one kernel position's weights. -/
def tapV (u : Vec Ideal S2x512x386x258 .bf16) (w : Vec Ideal S640x512x3x3 .bf16) (kh kw : ℕ)
    (hw : S640x512x3x3.Slices ![0, 0, kh, kw] S640x512x1x1) (hu : S2x512x386x258.Slices ![0, 0, kh, kw] S2x512x384x256) :
    Vec Ideal S2x640x384x256 .f32 :=
  transpose S2x640x384x256 [0, 3, 1, 2]
    (Host.dotGeneral (F := Ideal) (φ₁ := .bf16) (φ₂ := .bf16) dot_S2x512x384x256_S640x512_S2x384x256x640_1_1_023_0_n_n none
      (extractStridedSlice S2x512x384x256 ![0, 0, kh, kw] u hu)
      (shapeCast S640x512 (extractStridedSlice S640x512x1x1 ![0, 0, kh, kw] w hw) shapeCasts_S640x512x1x1_S640x512))
    transposes_S2x384x256x640_S2x640x384x256_0_3_1_2

/-- A value per channel, at every pixel. -/
def chan (x : Vec Ideal S640 .f32) : Vec Ideal S2x640x384x256 .f32 :=
  broadcastInDim S2x640x384x256 ![0, 1, 2, 3] bcast_S1x640x1x1_S2x640x384x256_0_1_2_3 (broadcastInDim S1x640x1x1 ![1] bcast_S640_S1x640x1x1_1 x)

/-- The nine taps added in order, times the channel scale, plus the bias. -/
def outV (u : Vec Ideal S2x512x386x258 .bf16) (w : Vec Ideal S640x512x3x3 .bf16) (ws bias : Vec Ideal S640 .f32) : Vec Ideal S2x640x384x256 .bf16 :=
  truncf (F := Ideal) .bf16 (addf (mulf (addf (addf (addf (addf (addf (addf (addf (addf (addf
    (broadcastInDim S2x640x384x256 ![] bcast_S_S2x640x384x256 (constant (F := Ideal) S_ .f32 0x00000000#32))
    (tapV u w 0 0 slices_S640x512x3x3_S640x512x1x1_0_0_0_0 slices_S2x512x386x258_S2x512x384x256_0_0_0_0))
    (tapV u w 0 1 slices_S640x512x3x3_S640x512x1x1_0_0_0_1 slices_S2x512x386x258_S2x512x384x256_0_0_0_1))
    (tapV u w 0 2 slices_S640x512x3x3_S640x512x1x1_0_0_0_2 slices_S2x512x386x258_S2x512x384x256_0_0_0_2))
    (tapV u w 1 0 slices_S640x512x3x3_S640x512x1x1_0_0_1_0 slices_S2x512x386x258_S2x512x384x256_0_0_1_0))
    (tapV u w 1 1 slices_S640x512x3x3_S640x512x1x1_0_0_1_1 slices_S2x512x386x258_S2x512x384x256_0_0_1_1))
    (tapV u w 1 2 slices_S640x512x3x3_S640x512x1x1_0_0_1_2 slices_S2x512x386x258_S2x512x384x256_0_0_1_2))
    (tapV u w 2 0 slices_S640x512x3x3_S640x512x1x1_0_0_2_0 slices_S2x512x386x258_S2x512x384x256_0_0_2_0))
    (tapV u w 2 1 slices_S640x512x3x3_S640x512x1x1_0_0_2_1 slices_S2x512x386x258_S2x512x384x256_0_0_2_1))
    (tapV u w 2 2 slices_S640x512x3x3_S640x512x1x1_0_0_2_2 slices_S2x512x386x258_S2x512x384x256_0_0_2_2))
    (chan ws)) (chan bias)) bitsLt_bf16_f32

/-- Lines in sequence. -/
theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons op l ih => exact ih _

/-- The last line's result, from what the lines read. -/
theorem line_out (X : Valuation τ sig (Elt Ideal)) :
    StableHlo.after hostOps1_2 X (Proc.devRef .tc main_v67)
      = outV (X (Proc.devRef .tc main_v5)) (X (Proc.devRef .tc main_v0_1)) (X (Proc.devRef .tc main_arg3)) (X (Proc.devRef .tc main_arg4)) := by
  dsimp only [hostOps1_2]
  after_results_simp
  rfl

/-- The bordered image, from the scaled images. -/
theorem line_up (X : Valuation τ sig (Elt Ideal)) :
    StableHlo.after (hostOps1 ++ hostOps1_1) X (Proc.devRef .tc main_v5) = up (X (Proc.devRef .tc main_v0_0)) := by
  simp only [hostOps1, hostOps1_1, List.cons_append, List.nil_append]
  after_results_simp
  rfl

/-- What those lines leave alone. -/
theorem line_keep (X : Valuation τ sig (Elt Ideal)) :
    StableHlo.after (hostOps1 ++ hostOps1_1) X (Proc.devRef .tc main_v0_1) = X (Proc.devRef .tc main_v0_1)
    ∧ StableHlo.after (hostOps1 ++ hostOps1_1) X (Proc.devRef .tc main_arg3) = X (Proc.devRef .tc main_arg3)
    ∧ StableHlo.after (hostOps1 ++ hostOps1_1) X (Proc.devRef .tc main_arg4) = X (Proc.devRef .tc main_arg4) := by
  simp only [hostOps1, hostOps1_1, List.cons_append, List.nil_append]
  refine ⟨?_, ?_, ?_⟩ <;> after_results_simp

/-! ## Element by element -/

/-- The bordered image, element by element. -/
theorem up_apply (x : Vec Ideal S2x512x192x128 .bf16) (b : Fin 2) (ch : Fin 512) (i : Fin 386) (j : Fin 258) :
    up x (ix4 b ch i j) = if h : (1 ≤ i.val ∧ i.val < 385) ∧ (1 ≤ j.val ∧ j.val < 257) then
      x (ix4 b ch ⟨(i.val - 1) / 2, by omega⟩ ⟨(j.val - 1) / 2, by omega⟩) else 0 := by
  have hi := i.isLt
  have hj := j.isLt
  unfold up
  by_cases h : (1 ≤ i.val ∧ i.val < 385) ∧ (1 ≤ j.val ∧ j.val < 257)
  · obtain ⟨⟨i0, i1⟩, j0, j1⟩ := h
    rw [dif_pos ⟨⟨i0, i1⟩, j0, j1⟩]
    rw [pad_apply_of_inside _ _ _ _ _ _ _ _ (ix4 b ch (⟨i.val - 1, by omega⟩ : Fin 384) (⟨j.val - 1, by omega⟩ : Fin 256)) (fun a => by
      fin_cases a
      · show b.val = 0 + b.val * (0 + 1); omega
      · show ch.val = 0 + ch.val * (0 + 1); omega
      · show i.val = 1 + (i.val - 1) * (0 + 1); omega
      · show j.val = 1 + (j.val - 1) * (0 + 1); omega)]
    rw [shapeCast_apply _ _ _ (ix5 b ch (⟨i.val - 1, by omega⟩ : Fin 384) (⟨(j.val - 1) / 2, by omega⟩ : Fin 128) (⟨(j.val - 1) % 2, by omega⟩ : Fin 2)) (by
        rw [Shape.rowMajor_val_five, Shape.rowMajor_val_four]
        show (((b.val * 512 + ch.val) * 384 + (i.val - 1)) * 128 + (j.val - 1) / 2) * 2 + (j.val - 1) % 2 = ((b.val * 512 + ch.val) * 384 + (i.val - 1)) * 256 + (j.val - 1)
        omega),
      broadcastInDim_apply _ _ _ _ (ix4 b ch (⟨i.val - 1, by omega⟩ : Fin 384) (⟨(j.val - 1) / 2, by omega⟩ : Fin 128)) fun a => by fin_cases a <;> rfl,
      shapeCast_apply _ _ _ (ix5 b ch (⟨(i.val - 1) / 2, by omega⟩ : Fin 192) (⟨(i.val - 1) % 2, by omega⟩ : Fin 2) (⟨(j.val - 1) / 2, by omega⟩ : Fin 128)) (by
        rw [Shape.rowMajor_val_five, Shape.rowMajor_val_four]
        show (((b.val * 512 + ch.val) * 192 + (i.val - 1) / 2) * 2 + (i.val - 1) % 2) * 128 + (j.val - 1) / 2 = ((b.val * 512 + ch.val) * 384 + (i.val - 1)) * 128 + (j.val - 1) / 2
        omega),
      broadcastInDim_apply _ _ _ _ (ix4 b ch (⟨(i.val - 1) / 2, by omega⟩ : Fin 192) (⟨(j.val - 1) / 2, by omega⟩ : Fin 128)) fun a => by fin_cases a <;> rfl]
  · rw [dif_neg h]
    have hz : (sitofp (F := Ideal) .bf16 (constantI S_ 32 0#32) : Vec Ideal S_ .bf16) (Shape.Idx.first h_S_) = 0 := by
      show (((0#32 : BitVec 32).toInt : ℝ) : EReal) = 0
      simp
    by_cases hi' : 1 ≤ i.val ∧ i.val < 385
    · refine (pad_apply_of_not_inside _ _ _ _ _ _ _ _ (3 : Fin 4) ?_).trans hz
      rintro ⟨q0, -, q1⟩
      have q0 : 1 ≤ j.val := q0
      have q1 : (j.val - 1) / (0 + 1) < 256 := q1
      exact h ⟨hi', q0, by omega⟩
    · refine (pad_apply_of_not_inside _ _ _ _ _ _ _ _ (2 : Fin 4) ?_).trans hz
      rintro ⟨q0, -, q1⟩
      have q0 : 1 ≤ i.val := q0
      have q1 : (i.val - 1) / (0 + 1) < 384 := q1
      exact hi' ⟨q0, by omega⟩

/-- One tap, element by element. -/
theorem tapV_apply (u : Vec Ideal S2x512x386x258 .bf16) (w : Vec Ideal S640x512x3x3 .bf16) (kh kw : Fin 3)
    (hw : S640x512x3x3.Slices ![0, 0, kh.val, kw.val] S640x512x1x1) (hu : S2x512x386x258.Slices ![0, 0, kh.val, kw.val] S2x512x384x256)
    (b : Fin 2) (co : Fin 640) (Y : Fin 384) (X : Fin 256) :
    tapV u w kh.val kw.val hw hu (ix4 b co Y X)
      = ∑ ch : Fin 512, (u (ix4 b ch (⟨Y.val + kh.val, by omega⟩ : Fin 386) (⟨X.val + kw.val, by omega⟩ : Fin 258)) : EReal) * (w (ix4 co ch kh kw) : EReal) := by
  unfold tapV
  rw [transpose_apply _ _ _ _ (ix4 b Y X co) fun a => by fin_cases a <;> rfl]
  simp only [Host.dotGeneral]
  rw [Ideal.dotGeneral_apply, ← Equiv.sum_comp (contrEquiv1 dot_S2x512x384x256_S640x512_S2x384x256x640_1_1_023_0_n_n 512 rfl rfl).symm]
  refine Finset.sum_congr rfl fun ch _ => ?_
  rw [extractStridedSlice_apply _ _ _ _ (ix4 b ch (⟨Y.val + kh.val, by omega⟩ : Fin 386) (⟨X.val + kw.val, by omega⟩ : Fin 258)) (fun a => by
      fin_cases a
      · show b.val = 0 + b.val; omega
      · show ch.val = 0 + ch.val; omega
      · show Y.val + kh.val = kh.val + Y.val; omega
      · show X.val + kw.val = kw.val + X.val; omega),
    shapeCast_apply _ _ _ (ix4 co ch (0 : Fin 1) (0 : Fin 1)) (by
      rw [Shape.rowMajor_val_four, Shape.rowMajor_val_two]
      show ((co.val * 512 + ch.val) * 1 + 0) * 1 + 0 = co.val * 512 + ch.val
      omega),
    extractStridedSlice_apply _ _ _ _ (ix4 co ch kh kw) (fun a => by
      fin_cases a
      · show co.val = 0 + co.val; omega
      · show ch.val = 0 + ch.val; omega
      · show kh.val = kh.val + 0; omega
      · show kw.val = kw.val + 0; omega)]

/-- One tap of the bordered scaled image is the convolution's. -/
theorem tap_eq (c : Dev nD) (kh kw : Fin 3)
    (hw : S640x512x3x3.Slices ![0, 0, kh.val, kw.val] S640x512x1x1) (hu : S2x512x386x258.Slices ![0, 0, kh.val, kw.val] S2x512x384x256)
    (b : Fin 2) (co : Fin 640) (Y : Fin 384) (X : Fin 256) :
    tapV (up (xb m c)) (wb m c) kh.val kw.val hw hu (ix4 b co Y X) = (conv m c b).tap co kh kw Y.val X.val := by
  rw [tapV_apply]
  refine Finset.sum_congr rfl fun ch _ => ?_
  rw [up_apply]
  refine congrArg₂ (· * ·) ?_ rfl
  unfold Conv.px
  by_cases h : (1 ≤ Y.val + kh.val ∧ Y.val + kh.val < 385) ∧ (1 ≤ X.val + kw.val ∧ X.val + kw.val < 257)
  · rw [dif_pos h, dif_pos h]; exact xb_apply m c b ch _ _
  · rw [dif_neg h, dif_neg h]

/-- A value per channel, element by element. -/
theorem chan_apply (x : Vec Ideal S640 .f32) (b : Fin 2) (co : Fin 640) (Y : Fin 384) (X : Fin 256) :
    chan x (ix4 b co Y X) = x (ix1 co) := by
  unfold chan
  rw [broadcastInDim_apply _ _ _ _ (ix4 (0 : Fin 1) co (0 : Fin 1) (0 : Fin 1)) fun a => by fin_cases a <;> rfl,
    broadcastInDim_apply _ _ _ _ (ix1 co) fun a => by fin_cases a; rfl]

/-- The result of the lines is the convolution, element by element. -/
theorem outV_apply (c : Dev nD) (b : Fin 2) (co : Fin 640) (Y : Fin 384) (X : Fin 256) :
    outV (up (xb m c)) (wb m c) (m ((c : Thread nD τ).loc main_arg3)) (m ((c : Thread nD τ).loc main_arg4)) (ix4 b co Y X)
      = (conv m c b).out co Y.val X.val := by
  unfold Conv.out
  simp only [← tap_eq m c 0 0 slices_S640x512x3x3_S640x512x1x1_0_0_0_0 slices_S2x512x386x258_S2x512x384x256_0_0_0_0]
  rw [← tap_eq m c 0 1 slices_S640x512x3x3_S640x512x1x1_0_0_0_1 slices_S2x512x386x258_S2x512x384x256_0_0_0_1,
    ← tap_eq m c 0 2 slices_S640x512x3x3_S640x512x1x1_0_0_0_2 slices_S2x512x386x258_S2x512x384x256_0_0_0_2,
    ← tap_eq m c 1 0 slices_S640x512x3x3_S640x512x1x1_0_0_1_0 slices_S2x512x386x258_S2x512x384x256_0_0_1_0,
    ← tap_eq m c 1 1 slices_S640x512x3x3_S640x512x1x1_0_0_1_1 slices_S2x512x386x258_S2x512x384x256_0_0_1_1,
    ← tap_eq m c 1 2 slices_S640x512x3x3_S640x512x1x1_0_0_1_2 slices_S2x512x386x258_S2x512x384x256_0_0_1_2,
    ← tap_eq m c 2 0 slices_S640x512x3x3_S640x512x1x1_0_0_2_0 slices_S2x512x386x258_S2x512x384x256_0_0_2_0,
    ← tap_eq m c 2 1 slices_S640x512x3x3_S640x512x1x1_0_0_2_1 slices_S2x512x386x258_S2x512x384x256_0_0_2_1,
    ← tap_eq m c 2 2 slices_S640x512x3x3_S640x512x1x1_0_0_2_2 slices_S2x512x386x258_S2x512x384x256_0_0_2_2,
    show (0 : EReal) = broadcastInDim S2x640x384x256 ![] bcast_S_S2x640x384x256 (constant (F := Ideal) S_ .f32 0x00000000#32) (ix4 b co Y X) from
      (Ideal.ofBits_zero_f32).symm,
    show (conv m c b).ws co = chan (m ((c : Thread nD τ).loc main_arg3)) (ix4 b co Y X) from (chan_apply _ b co Y X).symm,
    show (conv m c b).bias co = chan (m ((c : Thread nD τ).loc main_arg4)) (ix4 b co Y X) from (chan_apply _ b co Y X).symm]
  rfl

/-! ## The run -/

/-- The plain convolution of the arguments, as a buffer. -/
def target (c : Dev nD) : Vec Ideal S2x640x384x256 .bf16 := fun j => (conv m c (j 0)).out (j 1) (j 2).val (j 3).val

/-- The lines after the region leave the plain convolution. -/
theorem tail (c : Dev nD) :
    Pipeline.afterTail₀ cfgs (dats m) 0 (V0 m) [hostOps1, hostOps1_1, hostOps1_2] c main_v67 = target m c := by
  unfold Pipeline.afterTail₀
  rw [show ([hostOps1, hostOps1_1, hostOps1_2] : List (List (HloOp τ sig (Elt Ideal)))).flatten = (hostOps1 ++ hostOps1_1) ++ hostOps1_2 from rfl,
    after_append, line_out, line_up, (line_keep _).1, (line_keep _).2.1, (line_keep _).2.2]
  have h3 := (Pipeline.withArrays_arr spec0 (by decide) c (V0 m c) (fun w => (dats m 0 c).arrAt w (cfgs 0).N) 3).trans (final3 m c)
  have h4 := (Pipeline.withArrays_arr spec0 (by decide) c (V0 m c) (fun w => (dats m 0 c).arrAt w (cfgs 0).N) 4).trans (final4 m c)
  have a3 := Pipeline.withArrays_of_ne spec0 c (V0 m c) (fun w => (dats m 0 c).arrAt w (cfgs 0).N) main_arg3 (by exact (by decide : ∀ w, Pipeline.arrRef spec0 w ≠ main_arg3))
  have a4 := Pipeline.withArrays_of_ne spec0 c (V0 m c) (fun w => (dats m 0 c).arrAt w (cfgs 0).N) main_arg4 (by exact (by decide : ∀ w, Pipeline.arrRef spec0 w ≠ main_arg4))
  refine Eq.trans (b := outV (up (xb m c)) (wb m c) (m ((c : Thread nD τ).loc main_arg3)) (m ((c : Thread nD τ).loc main_arg4))) ?_ ?_
  · congr 1
    · exact congrArg up h3
  · funext j
    obtain ⟨b, co, Y, X, rfl⟩ : ∃ (b : Fin 2) (co : Fin 640) (Y : Fin 384) (X : Fin 256), j = ix4 b co Y X := ⟨j 0, j 1, j 2, j 3, eq_ix4 j⟩
    exact outV_apply m c b co Y X

/-- The run: the result is the plain convolution, the arguments end as launched. -/
theorem run_value :
    θ_run defs (onTc (τ := τ) (main (F := Ideal))) ⟨m, fun _ => 0, ρ⟩ (fun r => ∀ c : Dev nD,
      r.2.mem ((c.tc : Thread nD τ).loc main_v67) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v67 (Pipeline.mem_restRefs_of main_v67 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩) (run_main m ρ)

end Cert.ReferenceIdeal.Value

end
-- ==== Proof.Final.lean ====
/-
  The kernel computes the reference on extended reals wherever every scale is nonnegative and finite.
-/
module

public import proofs.«01_k».proof.Defs
public import proofs.«01_k».proof.Proof.Result
public import proofs.«01_k».proof.Proof.RefValue

@[expose] public section

noncomputable section

namespace Cert.Proof

open Idealize.ShloMosaic Idealize.ShloMosaic.TcCoe Idealize.SL.Sem Idealize.ShloMosaic.ValueIdx
open Cert.Up

/-- The side conditions of the precondition's two broadcasts. -/
instance preFacts : Cert.Pre_usable_scales.Facts where
  bcast_S_S2x192x128 := by decide
  bcast_S_S640 := by decide

/-- A bit that is one says that its condition holds. -/
theorem of_ofBool {p : Prop} [Decidable p] (e : BitVec.ofBool (decide p) = 1#1) : p := by
  by_contra h
  rw [decide_eq_false h] at e
  exact absurd e (by decide)

/-- The precondition's first comparison, read at an element. -/
theorem le_of_oge {s : Shape} {x : s.Idx → EReal} {h : (⟨0, ![]⟩ : Shape).BroadcastsInDim s ![]}
    (e : (cmpf (F := Ideal) (φ := .f32) .oge x (broadcastInDim s ![] h (constant (F := Ideal) ⟨0, ![]⟩ .f32 0x00000000#32)) : IVec s 1) = fun _ => 1#1)
    (i : s.Idx) : 0 ≤ x i := by
  have e := congrFun e i
  have e : BitVec.ofBool (decide (Ideal.ofBits .f32 0x00000000#32 ≤ x i)) = 1#1 := e
  rw [Ideal.ofBits_zero_f32] at e
  exact of_ofBool e

/-- The precondition's second comparison, read at an element. -/
theorem ne_top_of_olt {s : Shape} {x : s.Idx → EReal} {h : (⟨0, ![]⟩ : Shape).BroadcastsInDim s ![]}
    (e : (cmpf (F := Ideal) (φ := .f32) .olt x (broadcastInDim s ![] h (constant (F := Ideal) ⟨0, ![]⟩ .f32 0x7F800000#32)) : IVec s 1) = fun _ => 1#1)
    (i : s.Idx) : x i ≠ ⊤ := by
  have e := congrFun e i
  have e : BitVec.ofBool (decide (x i < Ideal.ofBits .f32 0x7F800000#32)) = 1#1 := e
  rw [show Ideal.ofBits .f32 0x7F800000#32 = ⊤ by simp [Ideal.ofBits, Ideal.ieee]] at e
  exact (of_ofBool e).ne

/-- Under the precondition every scale of every image is usable. -/
theorem usable (m : (ℓ : Loc Cert.KernelIdeal.nD Cert.KernelIdeal.τ Cert.KernelIdeal.sig) → Buf (Elt Ideal) ℓ)
    (h : Cert.Pre_KernelIdeal_usable_scales m) (c : Dev Cert.KernelIdeal.nD) (b : Fin 2) : (Cert.KernelIdeal.Hand.conv m c b).Usable where
  s0 r w := le_of_oge (h c).1 (ix3 b r w)
  s1 r w := ne_top_of_olt (h c).2.1 (ix3 b r w)
  w0 co := le_of_oge (h c).2.2.1 (ix1 co)
  w1 co := ne_top_of_olt (h c).2.2.2 (ix1 co)

/-- Both programs end with the plain convolution of the arguments. -/
theorem algebraic : Cert.algebraic_KernelIdeal_ReferenceIdeal_pre_usable_scales
    (hKernelIdeal := Cert.KernelIdeal.Gen.facts) (hReferenceIdeal := Cert.ReferenceIdeal.Gen.facts) (hPre_usable_scales := preFacts) := by
  intro m g m' g' hpre heq
  refine ⟨fun c => Cert.KernelIdeal.Value.target m c, Cert.KernelIdeal.Value.run_value m g (usable m hpre), ?_⟩
  refine (θ_run _ _ _).mono (fun r h c => ⟨(h c).1.trans ?_, (h c).2⟩) (Cert.ReferenceIdeal.Value.run_value m' g')
  obtain ⟨h0, h1, h2, h3, h4⟩ := heq c
  unfold Cert.ReferenceIdeal.Value.target Cert.KernelIdeal.Value.target Cert.ReferenceIdeal.Value.conv Cert.KernelIdeal.Hand.conv
  rw [h0, h1, h2, h3, h4]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.Final
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts,
  fun m g _ => Cert.Kernel.Hand.quiescent m g,
  fun m g _ => Cert.KernelIdeal.Hand.quiescent m g,
  fun m g _ => Cert.KernelIdeal.Hand.quiescent m g,
  fun m g _ => Cert.ReferenceIdeal.Gen.frame m g,
  fun m g _ => Cert.ReferenceIdeal.Gen.frame m g,
  ⟨IdealRules.bf16_pair.packStatement _, IdealRules.bf16_pair.statement _ _⟩, algebraic⟩

end Cert.Proof

end
